-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S1024x1x3 : Shape := ⟨3, ![1024, 1, 3]⟩
abbrev S1024 : Shape := ⟨1, ![1024]⟩
abbrev S1024x1024x1 : Shape := ⟨3, ![1024, 1024, 1]⟩
abbrev S1024x1024 : Shape := ⟨2, ![1024, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1x3 : S_.BroadcastsInDim S1024x1x3 (![] : Fin 0 → Fin S1024x1x3.rank)
  reducesTo_S1024x1x3_S_d0_1_2 : S1024x1x3.ReducesTo [0, 1, 2] S_
  bcast_S_S1024 : S_.BroadcastsInDim S1024 (![] : Fin 0 → Fin S1024.rank)
  reducesTo_S1024_S_d0 : S1024.ReducesTo [0] S_
  bcast_S_S1024x1024x1 : S_.BroadcastsInDim S1024x1024x1 (![] : Fin 0 → Fin S1024x1024x1.rank)
  reducesTo_S1024x1024x1_S_d0_1_2 : S1024x1024x1.ReducesTo [0, 1, 2] S_

variable [Facts]

def fn_part4 {F : FTy → Type} [FloatOps F] (main_arg15 : FVec F S1024 .f32) (main_v63 : IVec S_ 1) (main_v67 : IVec S_ 1) : IVec S_ 1 :=
  let main_v68 : IVec S_ 1 := andi main_v63 main_v67
  let main_v69 : FVec F S1024 .f32 := Host.absf main_arg15
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024x1024x1 .f32) (main_arg12 : FVec F S1024 .f32) (main_arg13 : FVec F S1024x1x3 .f32) (main_arg15 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024x1 .f32 := Host.absf main_arg11
  let main_cst_20 : FVec F S_ .f32 := constant S_ .f32 0x7F800000#32
  let main_v55 : FVec F S1024x1024x1 .f32 := broadcastInDim S1024x1024x1 ![] bcast_S_S1024x1024x1 main_cst_20
  let main_v56 : IVec S1024x1024x1 1 := cmpf .olt main_v54 main_v55
  let main_c_21 : IVec S_ 1 := constantI S_ 1 1#1
  let main_v57 : IVec S_ 1 := (fun x v => Host.reduce IntOp.andi x v reducesTo_S1024x1024x1_S_d0_1_2 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1x3 .f32 := Host.absf main_arg13
  let main_cst_24 : FVec F S_ .f32 := constant S_ .f32 0x7F800000#32
  let main_v65 : FVec F S1024x1x3 .f32 := broadcastInDim S1024x1x3 ![] bcast_S_S1024x1x3 main_cst_24
  let main_v66 : IVec S1024x1x3 1 := cmpf .olt main_v64 main_v65
  let main_c_25 : IVec S_ 1 := constantI S_ 1 1#1
  let main_v67 : IVec S_ 1 := (fun x v => Host.reduce IntOp.andi x v reducesTo_S1024x1x3_S_d0_1_2 h_S_) main_v66 main_c_25
  fn_part4 (F := F) main_arg15 main_v63 main_v67

def fn_part2 {F : FTy → Type} [FloatOps F] (main_arg7 : FVec F S1024x1x3 .f32) (main_arg8 : FVec F S1024 .f32) (main_arg9 : FVec F S1024 .f32) (main_arg10 : FVec F S1024 .f32) (main_arg11 : FVec F S1024x1024x1 .f32) (main_arg12 : FVec F S1024 .f32) (main_arg13 : FVec F S1024x1x3 .f32) (main_arg15 : FVec F S1024 .f32) (main_v33 : IVec S_ 1) : IVec S_ 1 :=
  let main_v34 : FVec F S1024x1x3 .f32 := Host.absf main_arg7
  let main_cst_12 : FVec F S_ .f32 := constant S_ .f32 0x7F800000#32
  let main_v35 : FVec F S1024x1x3 .f32 := broadcastInDim S1024x1x3 ![] bcast_S_S1024x1x3 main_cst_12
  let main_v36 : IVec S1024x1x3 1 := cmpf .olt main_v34 main_v35
  let main_c_13 : IVec S_ 1 := constantI S_ 1 1#1
  let main_v37 : IVec S_ 1 := (fun x v => Host.reduce IntOp.andi x v reducesTo_S1024x1x3_S_d0_1_2 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg15 main_v48 main_v49 main_v50

def fn_part1 {F : FTy → Type} [FloatOps F] (main_arg4 : FVec F S1024 .f32) (main_arg5 : FVec F S1024x1024x1 .f32) (main_arg6 : FVec F S1024 .f32) (main_arg7 : FVec F S1024x1x3 .f32) (main_arg8 : FVec F S1024 .f32) (main_arg9 : FVec F S1024 .f32) (main_arg10 : FVec F S1024 .f32) (main_arg11 : FVec F S1024x1024x1 .f32) (main_arg12 : FVec F S1024 .f32) (main_arg13 : FVec F S1024x1x3 .f32) (main_arg15 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024x1 .f32 := Host.absf main_arg5
  let main_cst_8 : FVec F S_ .f32 := constant S_ .f32 0x7F800000#32
  let main_v25 : FVec F S1024x1024x1 .f32 := broadcastInDim S1024x1024x1 ![] bcast_S_S1024x1024x1 main_cst_8
  let main_v26 : IVec S1024x1024x1 1 := cmpf .olt main_v24 main_v25
  let main_c_9 : IVec S_ 1 := constantI S_ 1 1#1
  let main_v27 : IVec S_ 1 := (fun x v => Host.reduce IntOp.andi x v reducesTo_S1024x1024x1_S_d0_1_2 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg15 main_v33

def fn {F : FTy → Type} [FloatOps F] (main_arg0 : FVec F S1x2048x1024 .f32) (main_arg1 : FVec F S1024x1x3 .f32) (main_arg2 : FVec F S1024 .f32) (main_arg3 : FVec F S1024 .f32) (main_arg4 : FVec F S1024 .f32) (main_arg5 : FVec F S1024x1024x1 .f32) (main_arg6 : FVec F S1024 .f32) (main_arg7 : FVec F S1024x1x3 .f32) (main_arg8 : FVec F S1024 .f32) (main_arg9 : FVec F S1024 .f32) (main_arg10 : FVec F S1024 .f32) (main_arg11 : FVec F S1024x1024x1 .f32) (main_arg12 : FVec F S1024 .f32) (main_arg13 : FVec F S1024x1x3 .f32) (main_arg14 : FVec F S1024 .f32) (main_arg15 : FVec F S1024 .f32) (main_arg16 : FVec F S1024 .f32) (main_arg17 : FVec F S1024x1024x1 .f32) (main_arg18 : FVec F S1024 .f32) (main_arg19 : FVec F S1024x1024 .f32) (main_arg20 : FVec F S1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1x3 .f32 := Host.absf main_arg1
  let main_cst_0 : FVec F S_ .f32 := constant S_ .f32 0x7F800000#32
  let main_v5 : FVec F S1024x1x3 .f32 := broadcastInDim S1024x1x3 ![] bcast_S_S1024x1x3 main_cst_0
  let main_v6 : IVec S1024x1x3 1 := cmpf .olt main_v4 main_v5
  let main_c_1 : IVec S_ 1 := constantI S_ 1 1#1
  let main_v7 : IVec S_ 1 := (fun x v => Host.reduce IntOp.andi x v reducesTo_S1024x1x3_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg15 main_v13 main_v16
-- ==== Kernel.lean ====
abbrev S1x2048x1024 : Shape := ⟨3, ![1, 2048, 1024]⟩
abbrev S1024x1x3 : Shape := ⟨3, ![1024, 1, 3]⟩
abbrev S1024 : Shape := ⟨1, ![1024]⟩
abbrev S1024x1024x1 : Shape := ⟨3, ![1024, 1024, 1]⟩
abbrev S1024x1024 : Shape := ⟨2, ![1024, 1024]⟩
abbrev S2048x1024 : Shape := ⟨2, ![2048, 1024]⟩
abbrev S_ : Shape := ⟨0, ![]⟩
abbrev S2056x1024 : Shape := ⟨2, ![2056, 1024]⟩
abbrev S1024x3 : Shape := ⟨2, ![1024, 3]⟩
abbrev S1024x1 : Shape := ⟨2, ![1024, 1]⟩
abbrev S1x1024 : Shape := ⟨2, ![1, 1024]⟩
abbrev S16x1024 : Shape := ⟨2, ![16, 1024]⟩
abbrev S8x1024 : Shape := ⟨2, ![8, 1024]⟩
abbrev S24x1024 : Shape := ⟨2, ![24, 1024]⟩
abbrev S1x1024x1024 : Shape := ⟨3, ![1, 1024, 1024]⟩
abbrev S3x1024x1024 : Shape := ⟨3, ![3, 1024, 1024]⟩
abbrev S520x1024 : Shape := ⟨2, ![520, 1024]⟩
abbrev S512x1024 : Shape := ⟨2, ![512, 1024]⟩
abbrev S1024x128 : Shape := ⟨2, ![1024, 128]⟩
abbrev S2048x128 : Shape := ⟨2, ![2048, 128]⟩
abbrev S2048x64 : Shape := ⟨2, ![2048, 64]⟩
abbrev S1024x64 : Shape := ⟨2, ![1024, 64]⟩
abbrev S1024x2048 : Shape := ⟨2, ![1024, 2048]⟩

abbrev nBuf : Space → Nat
  | .hbm => 151
  | .vmem => 10
  | .smem => 0
  | _ => 0

abbrev hbmTy0_0 (i : Nat) : BufTy := match i % 128 with
  | 0 => ⟨S1x2048x1024, .f32⟩
  | 1 => ⟨S1024x1x3, .f32⟩
  | 2 => ⟨S1024, .f32⟩
  | 3 => ⟨S1024, .f32⟩
  | 4 => ⟨S1024, .f32⟩
  | 5 => ⟨S1024x1024x1, .f32⟩
  | 6 => ⟨S1024, .f32⟩
  | 7 => ⟨S1024x1x3, .f32⟩
  | 8 => ⟨S1024, .f32⟩
  | 9 => ⟨S1024, .f32⟩
  | 10 => ⟨S1024, .f32⟩
  | 11 => ⟨S1024x1024x1, .f32⟩
  | 12 => ⟨S1024, .f32⟩
  | 13 => ⟨S1024x1x3, .f32⟩
  | 14 => ⟨S1024, .f32⟩
  | 15 => ⟨S1024, .f32⟩
  | 16 => ⟨S1024, .f32⟩
  | 17 => ⟨S1024x1024x1, .f32⟩
  | 18 => ⟨S1024, .f32⟩
  | 19 => ⟨S1024x1024, .f32⟩
  | 20 => ⟨S1024, .f32⟩
  | 21 => ⟨S2048x1024, .f32⟩
  | 22 => ⟨S_, .i32⟩
  | 23 => ⟨S_, .f32⟩
  | 24 => ⟨S2056x1024, .f32⟩
  | 25 => ⟨S2056x1024, .bf16⟩
  | 26 => ⟨S_, .f32⟩
  | 27 => ⟨S1024, .f32⟩
  | 28 => ⟨S1024, .f32⟩
  | 29 => ⟨S1024x3, .f32⟩
  | 30 => ⟨S1024x1, .f32⟩
  | 31 => ⟨S1024x3, .f32⟩
  | 32 => ⟨S1024x3, .f32⟩
  | 33 => ⟨S1024, .f32⟩
  | 34 => ⟨S_, .f32⟩
  | 35 => ⟨S1024, .f32⟩
  | 36 => ⟨S1024, .f32⟩
  | 37 => ⟨S1024, .f32⟩
  | 38 => ⟨S1024x1, .f32⟩
  | 39 => ⟨S1024, .f32⟩
  | 40 => ⟨S1024x1, .f32⟩
  | 41 => ⟨S1024, .f32⟩
  | 42 => ⟨S1024x1, .f32⟩
  | 43 => ⟨S1024, .f32⟩
  | 44 => ⟨S_, .f32⟩
  | 45 => ⟨S1024, .f32⟩
  | 46 => ⟨S1024, .f32⟩
  | 47 => ⟨S_, .f32⟩
  | 48 => ⟨S1024, .f32⟩
  | 49 => ⟨S1024, .f32⟩
  | 50 => ⟨S_, .f32⟩
  | 51 => ⟨S1024, .f32⟩
  | 52 => ⟨S1024, .f32⟩
  | 53 => ⟨S_, .f32⟩
  | 54 => ⟨S1024, .f32⟩
  | 55 => ⟨S1024, .f32⟩
  | 56 => ⟨S1024x3, .f32⟩
  | 57 => ⟨S1024x1, .f32⟩
  | 58 => ⟨S1024x3, .f32⟩
  | 59 => ⟨S1024x3, .f32⟩
  | 60 => ⟨S1024, .f32⟩
  | 61 => ⟨S_, .f32⟩
  | 62 => ⟨S1024, .f32⟩
  | 63 => ⟨S1024, .f32⟩
  | 64 => ⟨S1024, .f32⟩
  | 65 => ⟨S_, .f32⟩
  | 66 => ⟨S1024, .f32⟩
  | 67 => ⟨S1024, .f32⟩
  | 68 => ⟨S1024x1, .f32⟩
  | 69 => ⟨S1024, .f32⟩
  | 70 => ⟨S1024x1, .f32⟩
  | 71 => ⟨S1024, .f32⟩
  | 72 => ⟨S1024x1, .f32⟩
  | 73 => ⟨S1024, .f32⟩
  | 74 => ⟨S_, .f32⟩
  | 75 => ⟨S1024, .f32⟩
  | 76 => ⟨S1024, .f32⟩
  | 77 => ⟨S_, .f32⟩
  | 78 => ⟨S1024, .f32⟩
  | 79 => ⟨S1024, .f32⟩
  | 80 => ⟨S_, .f32⟩
  | 81 => ⟨S1024, .f32⟩
  | 82 => ⟨S1024, .f32⟩
  | 83 => ⟨S_, .f32⟩
  | 84 => ⟨S1024, .f32⟩
  | 85 => ⟨S1024, .f32⟩
  | 86 => ⟨S1024x3, .f32⟩
  | 87 => ⟨S1024x1, .f32⟩
  | 88 => ⟨S1024x3, .f32⟩
  | 89 => ⟨S1024x3, .f32⟩
  | 90 => ⟨S1024, .f32⟩
  | 91 => ⟨S_, .f32⟩
  | 92 => ⟨S1024, .f32⟩
  | 93 => ⟨S1024, .f32⟩
  | 94 => ⟨S1024, .f32⟩
  | 95 => ⟨S_, .f32⟩
  | 96 => ⟨S1024, .f32⟩
  | 97 => ⟨S1024, .f32⟩
  | 98 => ⟨S1024x1, .f32⟩
  | 99 => ⟨S1024, .f32⟩
  | 100 => ⟨S1024x1, .f32⟩
  | 101 => ⟨S1024, .f32⟩
  | 102 => ⟨S1024x1, .f32⟩
  | 103 => ⟨S1024, .f32⟩
  | 104 => ⟨S_, .f32⟩
  | 105 => ⟨S1024, .f32⟩
  | 106 => ⟨S1024, .f32⟩
  | 107 => ⟨S_, .f32⟩
  | 108 => ⟨S1024, .f32⟩
  | 109 => ⟨S1024, .f32⟩
  | 110 => ⟨S_, .f32⟩
  | 111 => ⟨S1024, .f32⟩
  | 112 => ⟨S1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S1x2048x1024, .f32⟩

abbrev hbmTy0_1 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S16x1024, .f32⟩
  | 10 => ⟨S8x1024, .f32⟩
  | 11 => ⟨S24x1024, .f32⟩
  | 12 => ⟨S1024x1024, .f32⟩
  | 13 => ⟨S1024x1024, .f32⟩
  | 14 => ⟨S1024x1024, .f32⟩
  | 15 => ⟨S1x1024x1024, .f32⟩
  | 16 => ⟨S1x1024x1024, .f32⟩
  | 17 => ⟨S1x1024x1024, .f32⟩
  | 18 => ⟨S3x1024x1024, .f32⟩
  | 19 => ⟨S3x1024x1024, .bf16⟩
  | 20 => ⟨S1024x1024, .bf16⟩
  | 21 => ⟨S2048x1024, .f32⟩
  | 22 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | .local _ .vmem, ⟨0, _⟩ => ⟨S2056x1024, .bf16⟩
  | .local _ .vmem, ⟨1, _⟩ => ⟨S24x1024, .f32⟩
  | .local _ .vmem, ⟨2, _⟩ => ⟨S3x1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_call0_v0 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_6 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_7 : Ref sig .tc := ⟨.hbm, 74, rfl⟩
abbrev main_v43 : Ref sig .tc := ⟨.hbm, 75, rfl⟩
abbrev main_v44 : Ref sig .tc := ⟨.hbm, 76, rfl⟩
abbrev main_cst_8 : Ref sig .tc := ⟨.hbm, 77, rfl⟩
abbrev main_v45 : Ref sig .tc := ⟨.hbm, 78, rfl⟩
abbrev main_v46 : Ref sig .tc := ⟨.hbm, 79, rfl⟩
abbrev main_cst_9 : Ref sig .tc := ⟨.hbm, 80, rfl⟩
abbrev main_v47 : Ref sig .tc := ⟨.hbm, 81, rfl⟩
abbrev main_v48 : Ref sig .tc := ⟨.hbm, 82, rfl⟩
abbrev main_cst_10 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_11 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_12 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_13 : Ref sig .tc := ⟨.hbm, 104, rfl⟩
abbrev main_v67 : Ref sig .tc := ⟨.hbm, 105, rfl⟩
abbrev main_v68 : Ref sig .tc := ⟨.hbm, 106, rfl⟩
abbrev main_cst_14 : Ref sig .tc := ⟨.hbm, 107, rfl⟩
abbrev main_v69 : Ref sig .tc := ⟨.hbm, 108, rfl⟩
abbrev main_v70 : Ref sig .tc := ⟨.hbm, 109, rfl⟩
abbrev main_cst_15 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c4_i32 : BitVec 32 := 4#32
  let v2 : BitVec 1 := Scalar.cmpi .slt arg0 c4_i32
  let v3 : BitVec 32 := Scalar.extui v2
  let c0_i32 : BitVec 32 := 0#32
  let v4 : BitVec 1 := Scalar.cmpi .ne v3 c0_i32
  v4

def k0_mult1 (i : grid0.Coords) : BitVec 32 :=
  let arg0 : BitVec 32 := BitVec.ofNat 32 (i 0).val
  let c512_i32 : BitVec 32 := 512#32
  let v13 : BitVec 32 := Scalar.muli arg0 c512_i32
  v13
def k0_off1 (i : grid0.Coords) : Fin 2 → Nat :=
  let arg0 : BitVec 32 := BitVec.ofNat 32 (i 0).val
  let c512_i32 : BitVec 32 := 512#32
  let v13 : BitVec 32 := Scalar.muli arg0 c512_i32
  let v14 : BitVec 32 := v13
  let v15 : Index := Scalar.indexCast v14
  let c0_5 : Index := 0#32
  ![v15.toNat, 0]
def k0_off2 (i : grid0.Coords) : Fin 2 → Nat :=
  let arg0 : BitVec 32 := BitVec.ofNat 32 (i 0).val
  let c512_i32 : BitVec 32 := 512#32
  let v13 : BitVec 32 := Scalar.muli arg0 c512_i32
  let v14 : BitVec 32 := v13
  let v53 : Index := Scalar.indexCast v14
  let c0_9 : Index := 0#32
  ![v53.toNat, 0]
def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let c20_i32 : BitVec 32 := 20#32
  let v6 : BitVec 1 := Scalar.cmpi .slt arg0 c20_i32
  let v7 : BitVec 1 := Scalar.andi v5 v6
  let v8 : BitVec 32 := Scalar.extui v7
  let c0_i32_2 : BitVec 32 := 0#32
  let v9 : BitVec 1 := Scalar.cmpi .ne v8 c0_i32_2
  v9

def k0_mult2 (i : grid0.Coords) : BitVec 32 :=
  let arg0 : BitVec 32 := BitVec.ofNat 32 (i 0).val
  let c4_i32_5 : BitVec 32 := 4#32
  let v13 : BitVec 32 := Scalar.subi arg0 c4_i32_5
  let c8_i32_6 : BitVec 32 := 8#32
  let v15 : BitVec 32 := Scalar.divsi v13 c8_i32_6
  let c1024_i32 : BitVec 32 := 1024#32
  let v16 : BitVec 32 := Scalar.muli v15 c1024_i32
  v16
def k0_mult3 (i : grid0.Coords) : BitVec 32 :=
  let arg0 : BitVec 32 := BitVec.ofNat 32 (i 0).val
  let c4_i32_5 : BitVec 32 := 4#32
  let v13 : BitVec 32 := Scalar.subi arg0 c4_i32_5
  let c8_i32 : BitVec 32 := 8#32
  let v14 : BitVec 32 := Scalar.remsi v13 c8_i32
  let c2_i32 : BitVec 32 := 2#32
  let v18 : BitVec 32 := Scalar.muli v14 c2_i32
  let c64_i32 : BitVec 32 := 64#32
  let v19 : BitVec 32 := Scalar.muli v18 c64_i32
  v19
def k0_off3 (i : grid0.Coords) : Fin 2 → Nat :=
  let arg0 : BitVec 32 := BitVec.ofNat 32 (i 0).val
  let c4_i32_5 : BitVec 32 := 4#32
  let v13 : BitVec 32 := Scalar.subi arg0 c4_i32_5
  let c8_i32_6 : BitVec 32 := 8#32
  let v15 : BitVec 32 := Scalar.divsi v13 c8_i32_6
  let c1024_i32 : BitVec 32 := 1024#32
  let v16 : BitVec 32 := Scalar.muli v15 c1024_i32
  let v17 : BitVec 32 := v16
  let v21 : Index := Scalar.indexCast v17
  let c8_i32 : BitVec 32 := 8#32
  let v14 : BitVec 32 := Scalar.remsi v13 c8_i32
  let c2_i32 : BitVec 32 := 2#32
  let v18 : BitVec 32 := Scalar.muli v14 c2_i32
  let c64_i32 : BitVec 32 := 64#32
  let v19 : BitVec 32 := Scalar.muli v18 c64_i32
  let v20 : BitVec 32 := v19
  let v22 : Index := Scalar.indexCast v20
  ![v21.toNat, v22.toNat]
def k0_off4 (i : grid0.Coords) : Fin 2 → Nat :=
  let c0_7 : Index := 0#32
  let arg0 : BitVec 32 := BitVec.ofNat 32 (i 0).val
  let c4_i32_5 : BitVec 32 := 4#32
  let v13 : BitVec 32 := Scalar.subi arg0 c4_i32_5
  let c8_i32 : BitVec 32 := 8#32
  let v14 : BitVec 32 := Scalar.remsi v13 c8_i32
  let c2_i32 : BitVec 32 := 2#32
  let v18 : BitVec 32 := Scalar.muli v14 c2_i32
  let c64_i32 : BitVec 32 := 64#32
  let v19 : BitVec 32 := Scalar.muli v18 c64_i32
  let v20 : BitVec 32 := v19
  let v24 : Index := Scalar.indexCast v20
  ![0, v24.toNat]
def k0_cond3 (i : grid0.Coords) : BitVec 1 :=
  let arg0 : BitVec 32 := BitVec.ofNat 32 (i 0).val
  let c20_i32_3 : BitVec 32 := 20#32
  let v10 : BitVec 1 := Scalar.cmpi .sge arg0 c20_i32_3
  let v11 : BitVec 32 := Scalar.extui v10
  let c0_i32_4 : BitVec 32 := 0#32
  let v12 : BitVec 1 := Scalar.cmpi .ne v11 c0_i32_4
  v12

def k0_mult4 (i : grid0.Coords) : BitVec 32 :=
  let arg0 : BitVec 32 := BitVec.ofNat 32 (i 0).val
  let c20_i32_5 : BitVec 32 := 20#32
  let v13 : BitVec 32 := Scalar.subi arg0 c20_i32_5
  let c1024_i32 : BitVec 32 := 1024#32
  let v14 : BitVec 32 := Scalar.muli v13 c1024_i32
  v14
def k0_off5 (i : grid0.Coords) : Fin 2 → Nat :=
  let arg0 : BitVec 32 := BitVec.ofNat 32 (i 0).val
  let c20_i32_5 : BitVec 32 := 20#32
  let v13 : BitVec 32 := Scalar.subi arg0 c20_i32_5
  let c1024_i32 : BitVec 32 := 1024#32
  let v14 : BitVec 32 := Scalar.muli v13 c1024_i32
  let v15 : BitVec 32 := v14
  let v16 : Index := Scalar.indexCast v15
  let c0_6 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c20_i32 : BitVec 32 := 20#32
  let v0 : BitVec 32 := Scalar.subi arg0 c20_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S2056x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x2048x1024 : Shape := ⟨3, ![1, 2048, 1024]⟩
abbrev S1024x1x3 : Shape := ⟨3, ![1024, 1, 3]⟩
abbrev S1024 : Shape := ⟨1, ![1024]⟩
abbrev S1024x1024x1 : Shape := ⟨3, ![1024, 1024, 1]⟩
abbrev S1024x1024 : Shape := ⟨2, ![1024, 1024]⟩
abbrev S1x1024x2048 : Shape := ⟨3, ![1, 1024, 2048]⟩
abbrev S_ : Shape := ⟨0, ![]⟩
abbrev S1x1024x2050 : Shape := ⟨3, ![1, 1024, 2050]⟩
abbrev S1024x1x1 : Shape := ⟨3, ![1024, 1, 1]⟩
abbrev S1024x1 : Shape := ⟨2, ![1024, 1]⟩
abbrev S1x1024x1 : Shape := ⟨3, ![1, 1024, 1]⟩
abbrev S1024x1x2048 : Shape := ⟨3, ![1024, 1, 2048]⟩
abbrev S1x2048x16x64 : Shape := ⟨4, ![1, 2048, 16, 64]⟩
abbrev S1x16x2048x64 : Shape := ⟨4, ![1, 16, 2048, 64]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩
abbrev S1x1x1024 : Shape := ⟨3, ![1, 1, 1024]⟩

abbrev nBuf : Space → Nat
  | .hbm => 180
  | .vmem => 0
  | .smem => 0
  | _ => 0

abbrev hbmTy0_0 (i : Nat) : BufTy := match i % 128 with
  | 0 => ⟨S1x2048x1024, .f32⟩
  | 1 => ⟨S1024x1x3, .f32⟩
  | 2 => ⟨S1024, .f32⟩
  | 3 => ⟨S1024, .f32⟩
  | 4 => ⟨S1024, .f32⟩
  | 5 => ⟨S1024x1024x1, .f32⟩
  | 6 => ⟨S1024, .f32⟩
  | 7 => ⟨S1024x1x3, .f32⟩
  | 8 => ⟨S1024, .f32⟩
  | 9 => ⟨S1024, .f32⟩
  | 10 => ⟨S1024, .f32⟩
  | 11 => ⟨S1024x1024x1, .f32⟩
  | 12 => ⟨S1024, .f32⟩
  | 13 => ⟨S1024x1x3, .f32⟩
  | 14 => ⟨S1024, .f32⟩
  | 15 => ⟨S1024, .f32⟩
  | 16 => ⟨S1024, .f32⟩
  | 17 => ⟨S1024x1024x1, .f32⟩
  | 18 => ⟨S1024, .f32⟩
  | 19 => ⟨S1024x1024, .f32⟩
  | 20 => ⟨S1024, .f32⟩
  | 21 => ⟨S1x1024x2048, .f32⟩
  | 22 => ⟨S_, .i32⟩
  | 23 => ⟨S_, .f32⟩
  | 24 => ⟨S1x1024x2050, .f32⟩
  | 25 => ⟨S1x1024x2048, .f32⟩
  | 26 => ⟨S1024x1x1, .f32⟩
  | 27 => ⟨S1024x1, .f32⟩
  | 28 => ⟨S1x1024x1, .f32⟩
  | 29 => ⟨S1x1024x2048, .f32⟩
  | 30 => ⟨S1x1024x2048, .f32⟩
  | 31 => ⟨S1x1024x2048, .f32⟩
  | 32 => ⟨S1024x1x1, .f32⟩
  | 33 => ⟨S1024x1, .f32⟩
  | 34 => ⟨S1x1024x1, .f32⟩
  | 35 => ⟨S1x1024x2048, .f32⟩
  | 36 => ⟨S1x1024x2048, .f32⟩
  | 37 => ⟨S1x1024x2048, .f32⟩
  | 38 => ⟨S1x1024x2048, .f32⟩
  | 39 => ⟨S1024x1x1, .f32⟩
  | 40 => ⟨S1024x1, .f32⟩
  | 41 => ⟨S1x1024x1, .f32⟩
  | 42 => ⟨S1x1024x2048, .f32⟩
  | 43 => ⟨S1x1024x2048, .f32⟩
  | 44 => ⟨S1x1024x2048, .f32⟩
  | 45 => ⟨S1x1024x1, .f32⟩
  | 46 => ⟨S1x1024x2048, .f32⟩
  | 47 => ⟨S1x1024x2048, .f32⟩
  | 48 => ⟨S_, .f32⟩
  | 49 => ⟨S1x1024x2048, .f32⟩
  | 50 => ⟨S1x1024x2048, .f32⟩
  | 51 => ⟨S1x1024x1, .f32⟩
  | 52 => ⟨S1x1024x2048, .f32⟩
  | 53 => ⟨S1x1024x2048, .f32⟩
  | 54 => ⟨S1x1024x1, .f32⟩
  | 55 => ⟨S1x1024x2048, .f32⟩
  | 56 => ⟨S1x1024x2048, .f32⟩
  | 57 => ⟨S1024x1024, .f32⟩
  | 58 => ⟨S1024x1x2048, .f32⟩
  | 59 => ⟨S1x1024x2048, .f32⟩
  | 60 => ⟨S1x1024x1, .f32⟩
  | 61 => ⟨S1x1024x2048, .f32⟩
  | 62 => ⟨S1x1024x2048, .f32⟩
  | 63 => ⟨S_, .i32⟩
  | 64 => ⟨S_, .f32⟩
  | 65 => ⟨S1x1024x2050, .f32⟩
  | 66 => ⟨S1x1024x2048, .f32⟩
  | 67 => ⟨S1024x1x1, .f32⟩
  | 68 => ⟨S1024x1, .f32⟩
  | 69 => ⟨S1x1024x1, .f32⟩
  | 70 => ⟨S1x1024x2048, .f32⟩
  | 71 => ⟨S1x1024x2048, .f32⟩
  | 72 => ⟨S1x1024x2048, .f32⟩
  | 73 => ⟨S1024x1x1, .f32⟩
  | 74 => ⟨S1024x1, .f32⟩
  | 75 => ⟨S1x1024x1, .f32⟩
  | 76 => ⟨S1x1024x2048, .f32⟩
  | 77 => ⟨S1x1024x2048, .f32⟩
  | 78 => ⟨S1x1024x2048, .f32⟩
  | 79 => ⟨S1x1024x2048, .f32⟩
  | 80 => ⟨S1024x1x1, .f32⟩
  | 81 => ⟨S1024x1, .f32⟩
  | 82 => ⟨S1x1024x1, .f32⟩
  | 83 => ⟨S1x1024x2048, .f32⟩
  | 84 => ⟨S1x1024x2048, .f32⟩
  | 85 => ⟨S1x1024x2048, .f32⟩
  | 86 => ⟨S1x1024x1, .f32⟩
  | 87 => ⟨S1x1024x2048, .f32⟩
  | 88 => ⟨S1x1024x2048, .f32⟩
  | 89 => ⟨S_, .f32⟩
  | 90 => ⟨S1x1024x2048, .f32⟩
  | 91 => ⟨S1x1024x2048, .f32⟩
  | 92 => ⟨S1x1024x1, .f32⟩
  | 93 => ⟨S1x1024x2048, .f32⟩
  | 94 => ⟨S1x1024x2048, .f32⟩
  | 95 => ⟨S1x1024x1, .f32⟩
  | 96 => ⟨S1x1024x2048, .f32⟩
  | 97 => ⟨S1x1024x2048, .f32⟩
  | 98 => ⟨S1024x1024, .f32⟩
  | 99 => ⟨S1024x1x2048, .f32⟩
  | 100 => ⟨S1x1024x2048, .f32⟩
  | 101 => ⟨S1x1024x1, .f32⟩
  | 102 => ⟨S1x1024x2048, .f32⟩
  | 103 => ⟨S1x1024x2048, .f32⟩
  | 104 => ⟨S_, .i32⟩
  | 105 => ⟨S_, .f32⟩
  | 106 => ⟨S1x1024x2050, .f32⟩
  | 107 => ⟨S1x1024x2048, .f32⟩
  | 108 => ⟨S1024x1x1, .f32⟩
  | 109 => ⟨S1024x1, .f32⟩
  | 110 => ⟨S1x1024x1, .f32⟩
  | 111 => ⟨S1x1024x2048, .f32⟩
  | 112 => ⟨S1x1024x2048, .f32⟩
  | 113 => ⟨S1x1024x2048, .f32⟩
  | 114 => ⟨S1024x1x1, .f32⟩
  | 115 => ⟨S1024x1, .f32⟩
  | 116 => ⟨S1x1024x1, .f32⟩
  | 117 => ⟨S1x1024x2048, .f32⟩
  | 118 => ⟨S1x1024x2048, .f32⟩
  | 119 => ⟨S1x1024x2048, .f32⟩
  | 120 => ⟨S1x1024x2048, .f32⟩
  | 121 => ⟨S1024x1x1, .f32⟩
  | 122 => ⟨S1024x1, .f32⟩
  | 123 => ⟨S1x1024x1, .f32⟩
  | 124 => ⟨S1x1024x2048, .f32⟩
  | 125 => ⟨S1x1024x2048, .f32⟩
  | 126 => ⟨S1x1024x2048, .f32⟩
  | 127 => ⟨S1x1024x1, .f32⟩
  | _ => ⟨S1x2048x1024, .f32⟩

abbrev hbmTy0_1 (i : Nat) : BufTy := match i % 128 with
  | 0 => ⟨S1x1024x2048, .f32⟩
  | 1 => ⟨S1x1024x2048, .f32⟩
  | 2 => ⟨S_, .f32⟩
  | 3 => ⟨S1x1024x2048, .f32⟩
  | 4 => ⟨S1x1024x2048, .f32⟩
  | 5 => ⟨S1x1024x1, .f32⟩
  | 6 => ⟨S1x1024x2048, .f32⟩
  | 7 => ⟨S1x1024x2048, .f32⟩
  | 8 => ⟨S1x1024x1, .f32⟩
  | 9 => ⟨S1x1024x2048, .f32⟩
  | 10 => ⟨S1x1024x2048, .f32⟩
  | 11 => ⟨S1024x1024, .f32⟩
  | 12 => ⟨S1024x1x2048, .f32⟩
  | 13 => ⟨S1x1024x2048, .f32⟩
  | 14 => ⟨S1x1024x1, .f32⟩
  | 15 => ⟨S1x1024x2048, .f32⟩
  | 16 => ⟨S1x1024x2048, .f32⟩
  | 17 => ⟨S1x2048x1024, .f32⟩
  | 18 => ⟨S1x2048x16x64, .f32⟩
  | 19 => ⟨S1x16x2048x64, .f32⟩
  | 20 => ⟨S1x2048x1024, .f32⟩
  | 21 => ⟨S1x2048x16x64, .f32⟩
  | 22 => ⟨S1x16x2048x64, .f32⟩
  | 23 => ⟨S1x2048x1024, .f32⟩
  | 24 => ⟨S1x2048x16x64, .f32⟩
  | 25 => ⟨S1x16x2048x64, .f32⟩
  | 26 => ⟨S1x16x2048x2048, .f32⟩
  | 27 => ⟨S_, .f32⟩
  | 28 => ⟨S1x16x2048x2048, .f32⟩
  | 29 => ⟨S1x16x2048x2048, .f32⟩
  | 30 => ⟨S_, .f32⟩
  | 31 => ⟨S1x16x2048, .f32⟩
  | 32 => ⟨S_, .f32⟩
  | 33 => ⟨S1x16x2048, .f32⟩
  | 34 => ⟨S1x16x2048, .f32⟩
  | 35 => ⟨S1x16x2048x1, .f32⟩
  | 36 => ⟨S1x16x2048x2048, .f32⟩
  | 37 => ⟨S1x16x2048x2048, .f32⟩
  | 38 => ⟨S1x16x2048x2048, .f32⟩
  | 39 => ⟨S_, .f32⟩
  | 40 => ⟨S1x16x2048, .f32⟩
  | 41 => ⟨S1x16x2048x1, .f32⟩
  | 42 => ⟨S1x16x2048x2048, .f32⟩
  | 43 => ⟨S1x16x2048x2048, .f32⟩
  | 44 => ⟨S1x16x2048x64, .f32⟩
  | 45 => ⟨S1x2048x16x64, .f32⟩
  | 46 => ⟨S1x2048x1024, .f32⟩
  | 47 => ⟨S1024x1024, .f32⟩
  | 48 => ⟨S1x2048x1024, .f32⟩
  | 49 => ⟨S1x1x1024, .f32⟩
  | 50 => ⟨S1x2048x1024, .f32⟩
  | 51 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_call0_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_0 : Ref sig .tc := ⟨.hbm, 63, rfl⟩
abbrev main_call1_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_1 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_2 : Ref sig .tc := ⟨.hbm, 104, rfl⟩
abbrev main_call2_v0 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_3 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_4 : Ref sig .tc := ⟨.hbm, 155, rfl⟩
abbrev main_v125 : Ref sig .tc := ⟨.hbm, 156, rfl⟩
abbrev main_v126 : Ref sig .tc := ⟨.hbm, 157, rfl⟩
abbrev main_cst_5 : Ref sig .tc := ⟨.hbm, 158, rfl⟩
abbrev main_v127 : Ref sig .tc := ⟨.hbm, 159, rfl⟩
abbrev main_cst_6 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_7 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩

abbrev nD : Nat := 1
abbrev τ : Topo := Topo.v7x

variable {F : FTy → Type} [FloatOps F]
-- ==== Proof.BodyIdeal.lean ====
module

public import proofs.«01_k».proof.Proof.Gen.KernelIdeal.Frame
public import proofs.«01_k».proof.Proof.Gen.KernelIdeal.Skeleton
public import Idealize.ShloMosaic.Lib.Tactic
public import Idealize.ShloMosaic.Lib.WritesUnit
public import Idealize.ShloMosaic.Lib.VecWindow
public import Idealize.ShloMosaic.Lib.ValueIdxCore

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)
open Idealize.ShloMosaic.VecWindow (window put)

variable {F : FTy → Type} [FloatOps F]

local notation "𝕄" => MT nD τ sig Unit (Elt F) ℕ (UR sig nD τ) ℕ

/-- A memref's buffer contents on core `c`. -/
abbrev Bf (c : Dev nD) {sp : Space} {S : Shape} {e : EltTy} (M : Memref sig .tc sp S e) : Type := Buf (Elt F) (M.view.loc (c : Thread nD τ))
/-- A memref's buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-! ## The values the kernel computes, as functions of its four inputs -/

section Values

variable (X : Vec F S2056x1024 .bf16) (P : Vec F S24x1024 .f32) (W : Vec F S3x1024x1024 .bf16) (WO : Vec F S1024x1024 .bf16)

/-- The 520 padded input rows that block `n` of the three projections reads. -/
def xrows (n : Fin 4) : Vec F S520x1024 .bf16 :=
  window X ![512 * n.val, 0] S520x1024.size (by have := n.isLt; intro a; fin_cases a; · show 512 * n.val + 520 ≤ 2056; omega
                                                · show 0 + 1024 ≤ 1024; omega)

/-- One of the three stacked pointwise weights. -/
def slab (s : Fin 3) : Vec F S1x1024x1024 .bf16 :=
  window W ![s.val, 0, 0] S1x1024x1024.size (by have := s.isLt; intro a; fin_cases a; · show s.val + 1 ≤ 3; omega
                                                · show 0 + 1024 ≤ 1024; omega
                                                · show 0 + 1024 ≤ 1024; omega)

/-- Rows `512 n` to `512 n + 511` of the queries. -/
def qblk (n : Fin 4) : Vec F S512x1024 .bf16 := k0_pay9 (k0_pay1 P) (xrows X n) (slab W 0)
/-- Rows `512 n` to `512 n + 511` of the keys. -/
def kblk (n : Fin 4) : Vec F S512x1024 .bf16 :=
  k0_pay12 (k0_pay1 P) (k0_pay6 (xrows X n)) (k0_pay7 (xrows X n)) (k0_pay8 (k0_pay1 P)) (k0_pay10 (k0_pay1 P) (xrows X n)) (k0_pay11 (k0_pay1 P)) (slab W 1)
/-- Rows `512 n` to `512 n + 511` of the values. -/
def vblk (n : Fin 4) : Vec F S512x1024 .bf16 :=
  k0_pay2 P (k0_pay13 (k0_pay5 (xrows X n)) (k0_pay6 (xrows X n)) (k0_pay7 (xrows X n)) (k0_pay8 (k0_pay1 P))) (k0_pay14 (slab W 2))

/-- Four blocks of 512 rows, as one array of 2048 rows. -/
def rowsOf (b : Fin 4 → Vec F S512x1024 .bf16) : Vec F S2048x1024 .bf16 := fun y =>
  b ⟨(y 0).val / 512, by have : (y 0).val < 2048 := (y 0).isLt; omega⟩
    (ix2 ⟨(y 0).val % 512, Nat.mod_lt _ (by decide)⟩ ⟨(y 1).val, (y 1).isLt⟩)

/-- All the queries. -/
def qfull : Vec F S2048x1024 .bf16 := rowsOf (qblk X P W)
/-- All the keys. -/
def kfull : Vec F S2048x1024 .bf16 := rowsOf (kblk X P W)
/-- All the values. -/
def vfull : Vec F S2048x1024 .bf16 := rowsOf (vblk X P W)

/-- 128 columns, from column `128 h`, of 1024 rows, from row `1024 b`. -/
def tile (A : Vec F S2048x1024 .bf16) (b : Fin 2) (h : Fin 8) : Vec F S1024x128 .bf16 :=
  window A ![1024 * b.val, 128 * h.val] S1024x128.size (by
    have := b.isLt; have := h.isLt; intro a; fin_cases a
    · show 1024 * b.val + 1024 ≤ 2048; omega
    · show 128 * h.val + 128 ≤ 1024; omega)
/-- 128 columns, from column `128 h`, of all the rows. -/
def cols (A : Vec F S2048x1024 .bf16) (h : Fin 8) : Vec F S2048x128 .bf16 :=
  window A ![0, 128 * h.val] S2048x128.size (by
    have := h.isLt; intro a; fin_cases a
    · show 0 + 2048 ≤ 2048; omega
    · show 128 * h.val + 128 ≤ 1024; omega)

/-- The attention result of head pair `h` for the 1024 query rows of block `b`. -/
def cblk (b : Fin 2) (h : Fin 8) : Vec F S1024x128 .bf16 :=
  k0_pay15 (tile (qfull X P W) b h) (cols (kfull X P W) h) (cols (vfull X P W) h)

/-- The attention result of all heads for all rows. -/
def cfull : Vec F S2048x1024 .bf16 := fun y =>
  cblk X P W ⟨(y 0).val / 1024, by have : (y 0).val < 2048 := (y 0).isLt; omega⟩ ⟨(y 1).val / 128, by have : (y 1).val < 1024 := (y 1).isLt; omega⟩
    (ix2 ⟨(y 0).val % 1024, Nat.mod_lt _ (by decide)⟩ ⟨(y 1).val % 128, Nat.mod_lt _ (by decide)⟩)

/-- 1024 whole rows, from row `1024 b`. -/
def half (A : Vec F S2048x1024 .bf16) (b : Fin 2) : Vec F S1024x1024 .bf16 :=
  window A ![1024 * b.val, 0] S1024x1024.size (by
    have := b.isLt; intro a; fin_cases a
    · show 1024 * b.val + 1024 ≤ 2048; omega
    · show 0 + 1024 ≤ 1024; omega)

/-- The output rows of block `b`. -/
def oblk (b : Fin 2) : Vec F S1024x1024 .f32 := k0_pay3 P (half (cfull X P W) b) WO

end Values

/-! ## The conditions and the offsets at a point, in closed form -/

/-- The first branch, which projects q, k and v, is taken at grid steps 0 to 3. -/
theorem cond1_iff : ∀ t : Fin cfg0.N, k0_cond1 (grid0.coords t) = 1#1 ↔ t.val < 4 := by decide +kernel
/-- The second branch, which attends, is taken at grid steps 4 to 19. -/
theorem cond2_iff : ∀ t : Fin cfg0.N, k0_cond2 (grid0.coords t) = 1#1 ↔ 4 ≤ t.val ∧ t.val < 20 := by decide +kernel
/-- The third branch, which writes the output, is taken from grid step 20 on. -/
theorem cond3_iff : ∀ t : Fin cfg0.N, k0_cond3 (grid0.coords t) = 1#1 ↔ 20 ≤ t.val := by decide +kernel
/-- A projecting step reads the input from row 512 times its number. -/
theorem off1_eq : ∀ t : Fin cfg0.N, k0_off1 (grid0.coords t) = ![512 * t.val, 0] := by decide +kernel
/-- A projecting step writes its block from row 512 times its number. -/
theorem off2_eq : ∀ t : Fin cfg0.N, k0_off2 (grid0.coords t) = ![512 * t.val, 0] := by decide +kernel
/-- Where an attending step reads the queries and writes the context. -/
theorem off3_eq : ∀ t : Fin cfg0.N, 4 ≤ t.val → t.val < 20 → k0_off3 (grid0.coords t) = ![1024 * ((t.val - 4) / 8), 128 * ((t.val - 4) % 8)] := by decide +kernel
/-- Where an attending step reads the keys and the values. -/
theorem off4_eq : ∀ t : Fin cfg0.N, 4 ≤ t.val → t.val < 20 → k0_off4 (grid0.coords t) = ![0, 128 * ((t.val - 4) % 8)] := by decide +kernel
/-- Where an output step reads the context. -/
theorem off5_eq : ∀ t : Fin cfg0.N, 20 ≤ t.val → k0_off5 (grid0.coords t) = ![1024 * (t.val - 20), 0] := by decide +kernel

/-! ## One run of the body in each of its three cases -/

variable (c : Dev nD) (i : grid0.Coords)
  (M1 : Memref sig .tc .vmem S2056x1024 .bf16) (h1 : M1.IsWhole) (M2 : Memref sig .tc .vmem S24x1024 .f32) (h2 : M2.IsWhole)
  (M3 : Memref sig .tc .vmem S3x1024x1024 .bf16) (h3 : M3.IsWhole) (M4 : Memref sig .tc .vmem S1024x1024 .bf16) (h4 : M4.IsWhole)
  (M5 : Memref sig .tc .vmem S1024x1024 .f32) (h5 : M5.IsWhole) (M6 : Memref sig .tc .vmem S2048x1024 .bf16) (h6 : M6.IsWhole)
  (M7 : Memref sig .tc .vmem S2048x1024 .bf16) (h7 : M7.IsWhole) (M8 : Memref sig .tc .vmem S2048x1024 .bf16) (h8 : M8.IsWhole)
  (M9 : Memref sig .tc .vmem S2048x1024 .bf16) (h9 : M9.IsWhole)

set_option maxHeartbeats 1600000 in
/-- A projection point: the body leaves its three input buffers and puts one block of rows into each of the query, key
    and value buffers. -/
theorem runA (n : Fin 4) (ho1 : k0_off1 i = ![512 * n.val, 0]) (ho2 : k0_off2 i = ![512 * n.val, 0])
    (hc1 : k0_cond1 i = 1#1) (hc2 : ¬ k0_cond2 i = 1#1) (hc3 : ¬ k0_cond3 i = 1#1)
    (f1 : Bf (F := F) c M1) (f2 : Bf (F := F) c M2) (f3 : Bf (F := F) c M3) (f6 : Bf (F := F) c M6) (f7 : Bf (F := F) c M7) (f8 : Bf (F := F) c M8) (Q : PUnit → sProp 𝕄) :
    iprop(pt c M1 f1 ∗ pt c M2 f2 ∗ pt c M3 f3 ∗ pt c M6 f6 ∗ pt c M7 f7 ∗ pt c M8 f8
      ∗ (iprop(pt c M1 f1 ∗ pt c M2 f2 ∗ pt c M3 f3
          ∗ (∃ g, ⌜M6.view.read (Elt F) g = put (M6.view.read (Elt F) f6) ![512 * n.val, 0] S512x1024.size
                (qblk (M1.view.read (Elt F) f1) (M2.view.read (Elt F) f2) (M3.view.read (Elt F) f3) n)⌝ ∗ pt c M6 g)
          ∗ (∃ g, ⌜M7.view.read (Elt F) g = put (M7.view.read (Elt F) f7) ![512 * n.val, 0] S512x1024.size
                (kblk (M1.view.read (Elt F) f1) (M2.view.read (Elt F) f2) (M3.view.read (Elt F) f3) n)⌝ ∗ pt c M7 g)
          ∗ (∃ g, ⌜M8.view.read (Elt F) g = put (M8.view.read (Elt F) f8) ![512 * n.val, 0] S512x1024.size
                (vblk (M1.view.read (Elt F) f1) (M2.view.read (Elt F) f2) (M3.view.read (Elt F) f3) n)⌝ ∗ pt c M8 g)) -∗ Q ⟨⟩))
    ⊢ wp frame (wpE (defs₀ (F := F)) Variants.none c none) Set.univ
        (cc0__fused_kernel i M1 h1 M2 h2 M3 h3 M4 h4 M5 h5 M6 h6 M7 h7 M8 h8 M9 h9) Q := by
  simp only [cc0__fused_kernel_eq_skeleton]; unfold cc0__fused_kernel_skel
  simp only [k0_part1_eq_skeleton, k0_part2_eq_skeleton, k0_part3_eq_skeleton]
  iintro ⟨H1, H2, H3, H6, H7, H8, Hk⟩
  sl_exec (disch := first | sl_exact hc1 | sl_exact hc2 | sl_exact hc3)
  sl_step
  iapply Hk
  have e2 : View.readAt (Elt F) M2.view (Rect.unit (s := S24x1024) ![0, 0] S24x1024.size inb_S24x1024_S24x1024_0_0).toLoadRect f2 = M2.view.read (Elt F) f2 :=
    View.readAt_full M2.view f2 inb_S24x1024_S24x1024_0_0
  have e1 : ∀ h, View.readAt (Elt F) M1.view (Rect.unit (s := S2056x1024) (k0_off1 i) S520x1024.size h).toLoadRect f1 = xrows (M1.view.read (Elt F) f1) n :=
    fun h => View.readAt_unit M1.view f1 h ho1 _
  have e1' := e1 (k0_off1_inb i hc1)
  have kval : ∀ R1 R2, R1 = xrows (M1.view.read (Elt F) f1) n → R2 = M2.view.read (Elt F) f2 →
      k0_pay12 (k0_pay1 R2) (k0_pay6 R1) (k0_pay7 R1) (k0_pay8 (k0_pay1 R2)) (k0_pay10 (k0_pay1 R2) R1) (k0_pay11 (k0_pay1 R2)) (slab (M3.view.read (Elt F) f3) 1)
        = kblk (M1.view.read (Elt F) f1) (M2.view.read (Elt F) f2) (M3.view.read (Elt F) f3) n := by
    rintro R1 R2 rfl rfl; rfl
  have vval : ∀ R1 R2, R1 = xrows (M1.view.read (Elt F) f1) n → R2 = M2.view.read (Elt F) f2 →
      k0_pay2 R2 (k0_pay13 (k0_pay5 R1) (k0_pay6 R1) (k0_pay7 R1) (k0_pay8 (k0_pay1 R2))) (k0_pay14 (slab (M3.view.read (Elt F) f3) 2))
        = vblk (M1.view.read (Elt F) f1) (M2.view.read (Elt F) f2) (M3.view.read (Elt F) f3) n := by
    rintro R1 R2 rfl rfl; rfl
  isplitl [H1]; · iexact H1
  isplitl [H2]; · iexact H2
  isplitl [H3]; · iexact H3
  isplitl [H6]
  · iexists _; isplitr; swap; (· iexact H6); ipureintro
    refine (View.read_writes_cons_put M6.view f6 _ _ [] ho2).trans ?_
    refine congrArg (put _ _ _) ?_
    exact congr (congr (congrArg k0_pay9 (congrArg k0_pay1 e2)) (e1 _)) rfl
  isplitl [H7]
  · iexists _; isplitr; swap; (· iexact H7); ipureintro
    refine (View.read_writes_cons_put M7.view f7 _ _ [] ho2).trans ?_
    refine congrArg (put _ _ _) ?_
    exact kval _ _ e1' e2
  · iexists _; isplitr; swap; (· iexact H8); ipureintro
    refine (View.read_writes_cons_put M8.view f8 _ _ [] ho2).trans ?_
    refine congrArg (put _ _ _) ?_
    exact vval _ _ e1' e2

set_option maxHeartbeats 1600000 in
/-- An attention point: the body puts one tile of the attention result into its buffer, from what the query, key and value
    buffers hold. -/
theorem runB (b : Fin 2) (h : Fin 8) (ho3 : k0_off3 i = ![1024 * b.val, 128 * h.val]) (ho4 : k0_off4 i = ![0, 128 * h.val])
    (hc1 : ¬ k0_cond1 i = 1#1) (hc2 : k0_cond2 i = 1#1) (hc3 : ¬ k0_cond3 i = 1#1)
    (f2 : Bf (F := F) c M2) (f6 : Bf (F := F) c M6) (f7 : Bf (F := F) c M7) (f8 : Bf (F := F) c M8) (f9 : Bf (F := F) c M9) (Q : PUnit → sProp 𝕄) :
    iprop(pt c M2 f2 ∗ pt c M6 f6 ∗ pt c M7 f7 ∗ pt c M8 f8 ∗ pt c M9 f9
      ∗ (iprop(pt c M2 f2 ∗ pt c M6 f6 ∗ pt c M7 f7 ∗ pt c M8 f8
          ∗ (∃ g, ⌜M9.view.read (Elt F) g = put (M9.view.read (Elt F) f9) ![1024 * b.val, 128 * h.val] S1024x128.size
              (k0_pay15 (tile (M6.view.read (Elt F) f6) b h) (cols (M7.view.read (Elt F) f7) h) (cols (M8.view.read (Elt F) f8) h))⌝ ∗ pt c M9 g)) -∗ Q ⟨⟩))
    ⊢ wp frame (wpE (defs₀ (F := F)) Variants.none c none) Set.univ
        (cc0__fused_kernel i M1 h1 M2 h2 M3 h3 M4 h4 M5 h5 M6 h6 M7 h7 M8 h8 M9 h9) Q := by
  simp only [cc0__fused_kernel_eq_skeleton]; unfold cc0__fused_kernel_skel
  simp only [k0_part1_eq_skeleton, k0_part2_eq_skeleton, k0_part3_eq_skeleton]
  iintro ⟨H2, H6, H7, H8, H9, Hk⟩
  sl_exec (disch := first | sl_exact hc1 | sl_exact hc2 | sl_exact hc3)
  sl_step
  iapply Hk
  isplitl [H2]; · iexact H2
  isplitl [H6]; · iexact H6
  isplitl [H7]; · iexact H7
  isplitl [H8]; · iexact H8
  iexists _; isplitr; swap; (· iexact H9); ipureintro
  refine (View.read_writes_cons_put M9.view f9 _ _ [] ho3).trans ?_
  refine congrArg (put _ _ _) ?_
  exact congr (congr (congrArg k0_pay15 (View.readAt_unit M6.view f6 _ ho3 _)) (View.readAt_unit M7.view f7 _ ho4 _)) (View.readAt_unit M8.view f8 _ ho4 _)

set_option maxHeartbeats 1600000 in
/-- An output point: the body overwrites the whole output buffer with the projection of one half of the attention rows. -/
theorem runC (b : Fin 2) (ho5 : k0_off5 i = ![1024 * b.val, 0])
    (hc1 : ¬ k0_cond1 i = 1#1) (hc2 : ¬ k0_cond2 i = 1#1) (hc3 : k0_cond3 i = 1#1)
    (f2 : Bf (F := F) c M2) (f4 : Bf (F := F) c M4) (f5 : Bf (F := F) c M5) (f9 : Bf (F := F) c M9) (Q : PUnit → sProp 𝕄) :
    iprop(pt c M2 f2 ∗ pt c M4 f4 ∗ pt c M5 f5 ∗ pt c M9 f9
      ∗ (iprop(pt c M2 f2 ∗ pt c M4 f4 ∗ pt c M9 f9
          ∗ (∃ g, ⌜M5.view.read (Elt F) g = k0_pay3 (M2.view.read (Elt F) f2) (half (M9.view.read (Elt F) f9) b) (M4.view.read (Elt F) f4)⌝ ∗ pt c M5 g)) -∗ Q ⟨⟩))
    ⊢ wp frame (wpE (defs₀ (F := F)) Variants.none c none) Set.univ
        (cc0__fused_kernel i M1 h1 M2 h2 M3 h3 M4 h4 M5 h5 M6 h6 M7 h7 M8 h8 M9 h9) Q := by
  simp only [cc0__fused_kernel_eq_skeleton]; unfold cc0__fused_kernel_skel
  simp only [k0_part1_eq_skeleton, k0_part2_eq_skeleton, k0_part3_eq_skeleton]
  iintro ⟨H2, H4, H5, H9, Hk⟩
  sl_exec (disch := first | sl_exact hc1 | sl_exact hc2 | sl_exact hc3)
  sl_step
  iapply Hk
  isplitl [H2]; · iexact H2
  isplitl [H4]; · iexact H4
  isplitl [H9]; · iexact H9
  iexists _; isplitr; swap; (· iexact H5); ipureintro
  refine (View.read_writes_full M5.view f5 inb_S1024x1024_S1024x1024_0_0 _ []).trans ?_
  exact congr (congr (congrArg k0_pay3 (View.readAt_full M2.view f2 _)) (View.readAt_unit M9.view f9 _ ho5 _)) (View.readAt_full M4.view f4 _)

end Cert.KernelIdeal.Body

end
-- ==== Proof.RunIdeal.lean ====
module

public import proofs.«01_k».proof.Proof.BodyIdeal
public import Idealize.ShloMosaic.Lib.Pipeline.Value
public import Idealize.ShloMosaic.Lib.Pipeline.Quiescent

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2)
open Idealize.ShloMosaic.VecWindow (window put)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold before each grid point -/

section Inv

variable (X : Vec F S2056x1024 .bf16) (P : Vec F S24x1024 .f32) (W : Vec F S3x1024x1024 .bf16) (WO : Vec F S1024x1024 .bf16)

/-- Before point `n` the first `512 n` rows of the queries, keys and values are computed, and so is every attention tile
    whose point lies before `n`. -/
structure Inv (n : ℕ) (q k v cs : Vec F S2048x1024 .bf16) : Prop where
  hq : ∀ y : S2048x1024.Idx, (y 0).val < 512 * n → q y = qfull X P W y
  hk : ∀ y : S2048x1024.Idx, (y 0).val < 512 * n → k y = kfull X P W y
  hv : ∀ y : S2048x1024.Idx, (y 0).val < 512 * n → v y = vfull X P W y
  hc : ∀ y : S2048x1024.Idx, 4 + 8 * ((y 0).val / 1024) + (y 1).val / 128 < n → cs y = cfull X P W y

/-- Before the first point nothing is computed. -/
theorem Inv.zero (q k v cs : Vec F S2048x1024 .bf16) : Inv X P W 0 q k v cs :=
  ⟨fun _ h => absurd h (by omega), fun _ h => absurd h (by omega), fun _ h => absurd h (by omega), fun _ h => absurd h (by omega)⟩

/-- Putting block `n` after the first `512 n` rows gives the first `512 (n + 1)` rows. -/
theorem put_rows (b : Fin 4 → Vec F S512x1024 .bf16) (n : Fin 4) (q : Vec F S2048x1024 .bf16)
    (h : ∀ y : S2048x1024.Idx, (y 0).val < 512 * n.val → q y = rowsOf b y) (y : S2048x1024.Idx) (hy : (y 0).val < 512 * (n.val + 1)) :
    (put q ![512 * n.val, 0] S512x1024.size (b n) : Vec F S2048x1024 .bf16) y = rowsOf b y := by
  unfold put
  have y1 : (y 1).val < 1024 := (y 1).isLt
  by_cases hlt : (y 0).val < 512 * n.val
  · rw [dif_neg, h y hlt]
    intro hall
    have := (hall 0).1
    have : 512 * n.val ≤ (y 0).val := this
    omega
  · have hall : ∀ a, (![512 * n.val, 0] : Fin 2 → ℕ) a ≤ (y a).val ∧ (y a).val < (![512 * n.val, 0] : Fin 2 → ℕ) a + S512x1024.size a := by
      intro a; fin_cases a
      · show 512 * n.val ≤ (y 0).val ∧ (y 0).val < 512 * n.val + 512; omega
      · show 0 ≤ (y 1).val ∧ (y 1).val < 0 + 1024; omega
    rw [dif_pos hall]
    unfold rowsOf
    have hn : (⟨(y 0).val / 512, by have : (y 0).val < 2048 := (y 0).isLt; omega⟩ : Fin 4) = n := Fin.ext (by show (y 0).val / 512 = n.val; omega)
    rw [hn]
    refine congrArg (b n) (funext fun a => Fin.ext ?_)
    fin_cases a
    · show (y 0).val - 512 * n.val = (y 0).val % 512; omega
    · show (y 1).val - 0 = (y 1).val; omega

/-- A projection point. -/
theorem Inv.stepA (n : Fin 4) {q k v cs : Vec F S2048x1024 .bf16} (h : Inv X P W n.val q k v cs) :
    Inv X P W (n.val + 1) (put q ![512 * n.val, 0] S512x1024.size (qblk X P W n)) (put k ![512 * n.val, 0] S512x1024.size (kblk X P W n))
      (put v ![512 * n.val, 0] S512x1024.size (vblk X P W n)) cs where
  hq := put_rows _ n q h.hq
  hk := put_rows _ n k h.hk
  hv := put_rows _ n v h.hv
  hc := fun y hy => absurd hy (by have := n.isLt; omega)

/-- From point 4 on the queries, keys and values are all computed. -/
theorem Inv.rows {n : ℕ} (hn : 4 ≤ n) {q k v cs : Vec F S2048x1024 .bf16} (h : Inv X P W n q k v cs) :
    q = qfull X P W ∧ k = kfull X P W ∧ v = vfull X P W :=
  ⟨funext fun y => h.hq y (by have : (y 0).val < 2048 := (y 0).isLt; omega), funext fun y => h.hk y (by have : (y 0).val < 2048 := (y 0).isLt; omega),
    funext fun y => h.hv y (by have : (y 0).val < 2048 := (y 0).isLt; omega)⟩

/-- An attention point. -/
theorem Inv.stepB (n : ℕ) (b : Fin 2) (hd : Fin 8) (hn : n = 4 + 8 * b.val + hd.val) {q k v cs : Vec F S2048x1024 .bf16} (h : Inv X P W n q k v cs) :
    Inv X P W (n + 1) q k v (put cs ![1024 * b.val, 128 * hd.val] S1024x128.size (k0_pay15 (tile q b hd) (cols k hd) (cols v hd))) where
  hq := fun y _ => h.hq y (by have : (y 0).val < 2048 := (y 0).isLt; omega)
  hk := fun y _ => h.hk y (by have : (y 0).val < 2048 := (y 0).isLt; omega)
  hv := fun y _ => h.hv y (by have : (y 0).val < 2048 := (y 0).isLt; omega)
  hc := fun y hy => by
    obtain ⟨rfl, rfl, rfl⟩ := h.rows X P W (by omega)
    have y0 : (y 0).val < 2048 := (y 0).isLt
    have y1 : (y 1).val < 1024 := (y 1).isLt
    have := b.isLt; have := hd.isLt
    unfold put
    by_cases hlt : 4 + 8 * ((y 0).val / 1024) + (y 1).val / 128 < n
    · rw [dif_neg, h.hc y hlt]
      intro hall
      have h0 : 1024 * b.val ≤ (y 0).val ∧ (y 0).val < 1024 * b.val + 1024 := hall 0
      have h1 : 128 * hd.val ≤ (y 1).val ∧ (y 1).val < 128 * hd.val + 128 := hall 1
      omega
    · have hall : ∀ a, (![1024 * b.val, 128 * hd.val] : Fin 2 → ℕ) a ≤ (y a).val ∧ (y a).val < (![1024 * b.val, 128 * hd.val] : Fin 2 → ℕ) a + S1024x128.size a := by
        intro a; fin_cases a
        · show 1024 * b.val ≤ (y 0).val ∧ (y 0).val < 1024 * b.val + 1024; omega
        · show 128 * hd.val ≤ (y 1).val ∧ (y 1).val < 128 * hd.val + 128; omega
      rw [dif_pos hall]
      unfold cfull
      have hb : (⟨(y 0).val / 1024, by omega⟩ : Fin 2) = b := Fin.ext (by show (y 0).val / 1024 = b.val; omega)
      have hh : (⟨(y 1).val / 128, by omega⟩ : Fin 8) = hd := Fin.ext (by show (y 1).val / 128 = hd.val; omega)
      rw [hb, hh]
      refine congrArg (cblk X P W b hd) (funext fun a => Fin.ext ?_)
      fin_cases a
      · show (y 0).val - 1024 * b.val = (y 0).val % 1024; omega
      · show (y 1).val - 128 * hd.val = (y 1).val % 128; omega

/-- From point 20 on every attention tile is computed. -/
theorem Inv.all {n : ℕ} (hn : 20 ≤ n) {q k v cs : Vec F S2048x1024 .bf16} (h : Inv X P W n q k v cs) : cs = cfull X P W :=
  funext fun y => h.hc y (by have : (y 0).val < 2048 := (y 0).isLt; have : (y 1).val < 1024 := (y 1).isLt; omega)

/-- An output point. -/
theorem Inv.stepC {n : ℕ} (hn : 20 ≤ n) {q k v cs : Vec F S2048x1024 .bf16} (h : Inv X P W n q k v cs) : Inv X P W (n + 1) q k v cs where
  hq := fun y _ => h.hq y (by have : (y 0).val < 2048 := (y 0).isLt; omega)
  hk := fun y _ => h.hk y (by have : (y 0).val < 2048 := (y 0).isLt; omega)
  hv := fun y _ => h.hv y (by have : (y 0).val < 2048 := (y 0).isLt; omega)
  hc := fun y _ => h.hc y (by have : (y 0).val < 2048 := (y 0).isLt; have : (y 1).val < 1024 := (y 1).isLt; omega)

end Inv

/-! ## The pipeline's data -/

/-- The padded input at the region's entry. -/
abbrev inX (c : Dev nD) : Vec F S2056x1024 .bf16 := V m c main_v2
/-- The stacked rows of taps and biases at the region's entry. -/
abbrev inP (c : Dev nD) : Vec F S24x1024 .f32 := V m c main_v99
/-- The stacked pointwise weights at the region's entry. -/
abbrev inW (c : Dev nD) : Vec F S3x1024x1024 .bf16 := V m c main_v107
/-- The output weight at the region's entry. -/
abbrev inWO (c : Dev nD) : Vec F S1024x1024 .bf16 := V m c main_v108

/-- An input window's block is the whole array. -/
theorem iblk0_eq (c : Dev nD) (t : Fin cfg0.N) : iblk m c 0 t = inX m c := by
  have hz : (fun a => win0_0.index t a * main_v2.ty.shape.size a) = fun _ => 0 := funext fun a => by fin_cases a <;> rfl
  exact Memref.read_access_unit_zero (Elt F) main_v2 hz (fun a => by rw [congrFun hz a]; simp) (V m c main_v2)
/-- Every step sees the whole of the packed parameters. -/
theorem iblk1_eq (c : Dev nD) (t : Fin cfg0.N) : iblk m c 1 t = inP m c := by
  have hz : (fun a => win0_1.index t a * main_v99.ty.shape.size a) = fun _ => 0 := funext fun a => by fin_cases a <;> rfl
  exact Memref.read_access_unit_zero (Elt F) main_v99 hz (fun a => by rw [congrFun hz a]; simp) (V m c main_v99)
/-- Every step sees the whole of the packed weights. -/
theorem iblk2_eq (c : Dev nD) (t : Fin cfg0.N) : iblk m c 2 t = inW m c := by
  have hz : (fun a => win0_2.index t a * main_v107.ty.shape.size a) = fun _ => 0 := funext fun a => by fin_cases a <;> rfl
  exact Memref.read_access_unit_zero (Elt F) main_v107 hz (fun a => by rw [congrFun hz a]; simp) (V m c main_v107)
/-- Every step sees the whole of the output weights. -/
theorem iblk3_eq (c : Dev nD) (t : Fin cfg0.N) : iblk m c 3 t = inWO m c := by
  have hz : (fun a => win0_3.index t a * main_v108.ty.shape.size a) = fun _ => 0 := funext fun a => by fin_cases a <;> rfl
  exact Memref.read_access_unit_zero (Elt F) main_v108 hz (fun a => by rw [congrFun hz a]; simp) (V m c main_v108)

/-- The four scratch buffers as the body names them. -/
abbrev mq : Memref sig .tc .vmem S2048x1024 .bf16 := Memref.whole cc0_scratch0
/-- The scratch that holds the keys. -/
abbrev mk : Memref sig .tc .vmem S2048x1024 .bf16 := Memref.whole cc0_scratch1
/-- The scratch that holds the values. -/
abbrev mv : Memref sig .tc .vmem S2048x1024 .bf16 := Memref.whole cc0_scratch2
/-- The scratch that holds the context. -/
abbrev mc : Memref sig .tc .vmem S2048x1024 .bf16 := Memref.whole cc0_scratch3

/-- The invariant before point `n`: the scratch buffers at contents as `Inv` says, and the random-number register. -/
def Φc (c : Dev nD) (n : ℕ) : sProp 𝕄 :=
  iprop((∃ f6 f7 f8 f9, ⌜Inv (inX m c) (inP m c) (inW m c) n (mq.view.read (Elt F) f6) (mk.view.read (Elt F) f7) (mv.view.read (Elt F) f8) (mc.view.read (Elt F) f9)⌝
    ∗ pt c mq f6 ∗ pt c mk f7 ∗ pt c mv f8 ∗ pt c mc f9) ∗ ∃ r, prngReg c r)

/-- The output block a point writes back (points 20 and 21; elsewhere nothing is written). -/
def outAt (c : Dev nD) (t : Fin cfg0.N) : Vec F S1024x1024 .f32 :=
  oblk (inX m c) (inP m c) (inW m c) (inWO m c) ⟨(t.val - 20) % 2, Nat.mod_lt _ (by decide)⟩

/-- The proof data: the arrays at their entry contents; after the body the inputs as fetched and the output's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ n := Φc m c n.val
  q _ := fullShare
  owed _ := 0

/-- The array of a window is what the host wrote before the kernel. -/
theorem A_eq (c : Dev nD) (w : Fin cfg0.W) : (dats m 0 c).A w = V m c (Pipeline.arrRef spec0 w) := by dsimp only [dats]

/-- Before a step the first window holds the padded input. -/
theorem before0 (c : Dev nD) (t : Fin cfg0.N) (d) : (dats m 0 c).before 0 t d = inX m c :=
  (before0_0_of m (dats m 0 c) (A_eq m c 0) (fun _ => by dsimp only [dats]) t d).trans (iblk0_eq m c t)
/-- Before a step the second window holds the packed parameters. -/
theorem before1 (c : Dev nD) (t : Fin cfg0.N) (d) : (dats m 0 c).before 1 t d = inP m c :=
  (before0_1_of m (dats m 0 c) (A_eq m c 1) (fun _ => by dsimp only [dats]) t d).trans (iblk1_eq m c t)
/-- Before a step the third window holds the packed weights. -/
theorem before2 (c : Dev nD) (t : Fin cfg0.N) (d) : (dats m 0 c).before 2 t d = inW m c :=
  (before0_2_of m (dats m 0 c) (A_eq m c 2) (fun _ => by dsimp only [dats]) t d).trans (iblk2_eq m c t)
/-- Before a step the fourth window holds the output weights. -/
theorem before3 (c : Dev nD) (t : Fin cfg0.N) (d) : (dats m 0 c).before 3 t d = inWO m c :=
  (before0_3_of m (dats m 0 c) (A_eq m c 3) (fun _ => by dsimp only [dats]) t d).trans (iblk3_eq m c t)
/-- A step leaves the first window as it was. -/
theorem after0 (c : Dev nD) (t : Fin cfg0.N) : (dats m 0 c).after 0 t = inX m c := (show _ = iblk m c 0 t by dsimp only [dats]).trans (iblk0_eq m c t)
/-- A step leaves the second window as it was. -/
theorem after1 (c : Dev nD) (t : Fin cfg0.N) : (dats m 0 c).after 1 t = inP m c := (show _ = iblk m c 1 t by dsimp only [dats]).trans (iblk1_eq m c t)
/-- A step leaves the third window as it was. -/
theorem after2 (c : Dev nD) (t : Fin cfg0.N) : (dats m 0 c).after 2 t = inW m c := (show _ = iblk m c 2 t by dsimp only [dats]).trans (iblk2_eq m c t)
/-- A step leaves the fourth window as it was. -/
theorem after3 (c : Dev nD) (t : Fin cfg0.N) : (dats m 0 c).after 3 t = inWO m c := (show _ = iblk m c 3 t by dsimp only [dats]).trans (iblk3_eq m c t)
/-- After a step the output window holds the block claimed for it. -/
theorem after4 (c : Dev nD) (t : Fin cfg0.N) : (dats m 0 c).after 4 t = outAt m c t := by dsimp only [dats]

/-- The output is written back at points 20 and 21. -/
theorem flush4_iff : ∀ t : Fin cfg0.N, (cfg0.win 4).flush t = true ↔ 20 ≤ t.val := by decide +kernel

/-! ## The body at a point -/

/-- A whole memref owned at `X` is its buffer held at contents that read `X`. -/
theorem owns_isWhole (c : Dev nD) {sp : Space} {S : Shape} {e : EltTy} {M : Memref sig .tc sp S e} (hw : M.IsWhole) (X : S.Idx → Elt F e) :
    (owns (c : Thread nD τ) M fullShare X : sProp 𝕄) = iprop(∃ f, ⌜M.view.read (Elt F) f = X⌝ ∗ pt c M f) := by
  unfold owns
  obtain ⟨b, hsp, hsh, he, h⟩ := hw
  subst hsp hsh he
  cases h
  show iprop(∃ f : Buf (Elt F) ((c : Thread nD τ).loc b), ⌜(Memref.whole b).view.read (Elt F) f = X⌝ ∗ (((c : Thread nD τ).loc b) ↦[(Memref.whole b).view.set]{fullShare} f))
    = iprop(∃ f : Buf (Elt F) ((c : Thread nD τ).loc b), ⌜(Memref.whole b).view.read (Elt F) f = X⌝ ∗ (((c : Thread nD τ).loc b) ↦{fullShare} f))
  rw [show (Memref.whole b).view.set = Finset.univ from View.set_whole b]

set_option maxHeartbeats 4000000 in
/-- The library's body obligation: at each point the buffers taken apart, the run of its case applied, the invariant put
    together again. -/
theorem body_obligation (c : Dev nD) : BodyObligation (dats m 0 c) (defs₀ (F := F)) Variants.none () Set.univ := fun t => by
  have hN : cfg0.N = 22 := N_0
  have hlt := t.isLt
  rw [bigSep_W0, bigSep_W0]
  rw [show (dats m 0 c).Φ t.castSucc = Φc m c t.val from rfl, show (dats m 0 c).Φ t.succ = Φc m c (t.val + 1) from rfl]
  have hi0 : cfg0.idle 0 (cfg0.grid.coords t) = false := rfl
  have hi1 : cfg0.idle 1 (cfg0.grid.coords t) = false := rfl
  have hi2 : cfg0.idle 2 (cfg0.grid.coords t) = false := rfl
  have hi3 : cfg0.idle 3 (cfg0.grid.coords t) = false := rfl
  have o0 : ∀ X, (owns (c : Thread nD τ) ((cfg0.win 0).stage (cfg0.slots t 0)) fullShare X : sProp 𝕄) = _ := fun X => owns_isWhole c (hstage0_0 ((cfg0.slots t 0).cast nbuf0_0)) X
  have o1 : ∀ X, (owns (c : Thread nD τ) ((cfg0.win 1).stage (cfg0.slots t 1)) fullShare X : sProp 𝕄) = _ := fun X => owns_isWhole c (hstage0_1 ((cfg0.slots t 1).cast nbuf0_1)) X
  have o2 : ∀ X, (owns (c : Thread nD τ) ((cfg0.win 2).stage (cfg0.slots t 2)) fullShare X : sProp 𝕄) = _ := fun X => owns_isWhole c (hstage0_2 ((cfg0.slots t 2).cast nbuf0_2)) X
  have o3 : ∀ X, (owns (c : Thread nD τ) ((cfg0.win 3).stage (cfg0.slots t 3)) fullShare X : sProp 𝕄) = _ := fun X => owns_isWhole c (hstage0_3 ((cfg0.slots t 3).cast nbuf0_3)) X
  have o4 : ∀ X, (owns (c : Thread nD τ) ((cfg0.win 4).stage (cfg0.slots t 4)) fullShare X : sProp 𝕄) = _ := fun X => owns_isWhole c (hstage0_4 ((cfg0.slots t 4).cast nbuf0_4)) X
  simp only [before0, before1, before2, before3, after0, after1, after2, after3, after4, hi0, hi1, hi2, hi3]
  unfold Φc Dat.owesAt Pipeline.owesWithin
  rw [show (dats m 0 c).owed t.castSucc = 0 from rfl, show (dats m 0 c).owed t.succ = 0 from rfl]
  rw [o0, o1, o2, o3]
  by_cases hA : t.val < 4
  · have hi4 : idle0 4 (grid0.coords t) = true := by
      show (!(k0_cond3 (grid0.coords t) == 1#1)) = true
      have := mt (cond3_iff t).mp (by omega)
      simpa using this
    have hf4 : (win0 4).flush t = false := by
      have := mt (flush4_iff t).mp (by omega)
      simpa using this
    simp only [hi4, hf4]
    iintro ⟨⟨⟨%f6, %f7, %f8, %f9, %hinv, H6, H7, H8, H9⟩, Hr⟩, HO, ⟨%d0, %f1, %e1, H1⟩, ⟨%d1, %f2, %e2, H2⟩, ⟨%d2, %f3, %e3, H3⟩, H4, H5⟩
    have hstep := Inv.stepA _ _ _ ⟨t.val, hA⟩ hinv
    rw [← e1, ← e2, ← e3] at hstep
    iapply (runA c (grid0.coords t) _ _ _ _ _ _ _ _ _ _ _ _ _ _ _ _ _ _ ⟨t.val, hA⟩ (off1_eq t) (off2_eq t)
      ((cond1_iff t).mpr hA) (mt (cond2_iff t).mp (by omega)) (mt (cond3_iff t).mp (by omega)) f1 f2 f3 f6 f7 f8)
    isplitl [H1]; · iexact H1
    isplitl [H2]; · iexact H2
    isplitl [H3]; · iexact H3
    isplitl [H6]; · iexact H6
    isplitl [H7]; · iexact H7
    isplitl [H8]; · iexact H8
    iintro ⟨H1, H2, H3, ⟨%g6, %r6, H6⟩, ⟨%g7, %r7, H7⟩, ⟨%g8, %r8, H8⟩⟩
    rw [← r6, ← r7, ← r8, e1, e2, e3] at hstep
    isplitl [H6 H7 H8 H9 Hr]
    · isplitl [H6 H7 H8 H9]
      · iexists g6; iexists g7; iexists g8; iexists f9
        isplitr; · ipureintro; exact hstep
        isplitl [H6]; · iexact H6
        isplitl [H7]; · iexact H7
        isplitl [H8]; · iexact H8
        iexact H9
      · iexact Hr
    isplitl [HO]; · iexact HO
    isplitl [H1]; · iexists f1; isplitr; swap; (· iexact H1); ipureintro; exact e1
    isplitl [H2]; · iexists f2; isplitr; swap; (· iexact H2); ipureintro; exact e2
    isplitl [H3]; · iexists f3; isplitr; swap; (· iexact H3); ipureintro; exact e3
    isplitl [H4]; · icases H4 with ⟨%d, H4⟩; iexact H4
    iexact H5
  by_cases hB : t.val < 20
  · have hi4 : idle0 4 (grid0.coords t) = true := by
      show (!(k0_cond3 (grid0.coords t) == 1#1)) = true
      have := mt (cond3_iff t).mp (by omega)
      simpa using this
    have hf4 : (win0 4).flush t = false := by
      have := mt (flush4_iff t).mp (by omega)
      simpa using this
    simp only [hi4, hf4]
    iintro ⟨⟨⟨%f6, %f7, %f8, %f9, %hinv, H6, H7, H8, H9⟩, Hr⟩, HO, ⟨%d0, H1⟩, ⟨%d1, %f2, %e2, H2⟩, ⟨%d2, H3⟩, ⟨%d3, H4⟩, H5⟩
    have hstep := Inv.stepB _ _ _ t.val ⟨(t.val - 4) / 8, by omega⟩ ⟨(t.val - 4) % 8, by omega⟩ (by show t.val = 4 + 8 * ((t.val - 4) / 8) + (t.val - 4) % 8; omega) hinv
    iapply (runB c (grid0.coords t) _ _ _ _ _ _ _ _ _ _ _ _ _ _ _ _ _ _ ⟨(t.val - 4) / 8, by omega⟩ ⟨(t.val - 4) % 8, by omega⟩ (off3_eq t (by omega) hB) (off4_eq t (by omega) hB)
      (mt (cond1_iff t).mp (by omega)) ((cond2_iff t).mpr ⟨by omega, hB⟩) (mt (cond3_iff t).mp (by omega)) f2 f6 f7 f8 f9)
    isplitl [H2]; · iexact H2
    isplitl [H6]; · iexact H6
    isplitl [H7]; · iexact H7
    isplitl [H8]; · iexact H8
    isplitl [H9]; · iexact H9
    iintro ⟨H2, H6, H7, H8, ⟨%g9, %r9, H9⟩⟩
    rw [← r9] at hstep
    isplitl [H6 H7 H8 H9 Hr]
    · isplitl [H6 H7 H8 H9]
      · iexists f6; iexists f7; iexists f8; iexists g9
        isplitr; · ipureintro; exact hstep
        isplitl [H6]; · iexact H6
        isplitl [H7]; · iexact H7
        isplitl [H8]; · iexact H8
        iexact H9
      · iexact Hr
    isplitl [HO]; · iexact HO
    isplitl [H1]; · iexact H1
    isplitl [H2]; · iexists f2; isplitr; swap; (· iexact H2); ipureintro; exact e2
    isplitl [H3]; · iexact H3
    isplitl [H4]; · iexact H4
    iexact H5
  · have hi4 : idle0 4 (grid0.coords t) = false := by
      show (!(k0_cond3 (grid0.coords t) == 1#1)) = false
      have := (cond3_iff t).mpr (by omega)
      simpa using this
    have h20 : (t.val - 20) % 2 = t.val - 20 := by omega
    simp only [hi4]
    rw [o4]
    simp only [o4]
    iintro ⟨⟨⟨%f6, %f7, %f8, %f9, %hinv, H6, H7, H8, H9⟩, Hr⟩, HO, ⟨%d0, H1⟩, ⟨%d1, %f2, %e2, H2⟩, ⟨%d2, H3⟩, ⟨%d3, %f4, %e4, H4⟩, ⟨%d4, %f5, %e5, H5⟩⟩
    have hstep := Inv.stepC _ _ _ (n := t.val) (by omega) hinv
    have hall := Inv.all _ _ _ (n := t.val) (by omega) hinv
    iapply (runC c (grid0.coords t) _ _ _ _ _ _ _ _ _ _ _ _ _ _ _ _ _ _ ⟨(t.val - 20) % 2, Nat.mod_lt _ (by decide)⟩
      ((off5_eq t (by omega)).trans (by show _ = ![1024 * ((t.val - 20) % 2), 0]; rw [h20]))
      (mt (cond1_iff t).mp (by omega)) (mt (cond2_iff t).mp (by omega)) ((cond3_iff t).mpr (by omega)) f2 f4 f5 f9)
    isplitl [H2]; · iexact H2
    isplitl [H4]; · iexact H4
    isplitl [H5]; · iexact H5
    isplitl [H9]; · iexact H9
    iintro ⟨H2, H4, H9, ⟨%g5, %r5, H5⟩⟩
    isplitl [H6 H7 H8 H9 Hr]
    · isplitl [H6 H7 H8 H9]
      · iexists f6; iexists f7; iexists f8; iexists f9
        isplitr; · ipureintro; exact hstep
        isplitl [H6]; · iexact H6
        isplitl [H7]; · iexact H7
        isplitl [H8]; · iexact H8
        iexact H9
      · iexact Hr
    isplitl [HO]; · iexact HO
    isplitl [H1]; · iexact H1
    isplitl [H2]; · iexists f2; isplitr; swap; (· iexact H2); ipureintro; exact e2
    isplitl [H3]; · iexact H3
    isplitl [H4]; · iexists f4; isplitr; swap; (· iexact H4); ipureintro; exact e4
    iexists g5; isplitr; swap; (· iexact H5); ipureintro
    refine r5.trans ?_
    rw [hall]
    exact congr (congr (congrArg k0_pay3 e2) rfl) e4

/-! ## The launch -/

/-- The whole run: from any memory with zero counters every execution of @main terminates, the arrays end as the pipeline
    library computes them, the host line after the region has run, and every counter is zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => (body_obligation m c).loose) (fun c w => (dats m 0 c).share_full (fun _ => rfl) w) (fun _ _ => rfl)
    (V0 m) [hostOps1] sfx_sub sfx_fresh sfx_keeps (hmain m Variants.none) (A_eq m)
    (fun c => by
      rw [show (dats m 0 c).Φ 0 = Φc m c 0 from rfl]
      unfold Pipeline.ΦA Φc; rw [scopedRest0_eq]
      iintro ⟨⟨⟨%f6, H6⟩, ⟨%f7, H7⟩, ⟨%f8, H8⟩, ⟨%f9, H9⟩⟩, Hr⟩
      isplitl [H6 H7 H8 H9]
      · iexists f6; iexists f7; iexists f8; iexists f9
        isplitr; · ipureintro; exact Inv.zero _ _ _ _ _ _ _
        isplitl [H6]; · iexact H6
        isplitl [H7]; · iexact H7
        isplitl [H8]; · iexact H8
        iexact H9
      · iexact Hr)
    (fun c => by
      rw [show (dats m 0 c).Φ (Fin.last cfg0.N) = Φc m c cfg0.N from rfl]
      unfold Pipeline.ΦA Φc; rw [scopedRest0_eq]
      iintro ⟨⟨%f6, %f7, %f8, %f9, -, H6, H7, H8, H9⟩, Hr⟩
      isplitl [H6 H7 H8 H9]
      · isplitl [H6]; · iexists f6; iexact H6
        isplitl [H7]; · iexists f7; iexact H7
        isplitl [H8]; · iexists f8; iexact H8
        iexists f9; iexact H9
      · iexact Hr)
    (Q' := fun r => Pipeline.FramePost cfgs (dats m) 0 (Pipeline.afterTail₀ cfgs (dats m) 0 (V0 m) [hostOps1]) r ∧ r.2.sem = fun _ => 0)
    (hQ' := fun _ h => h)

end Cert.KernelIdeal.Run

end
-- ==== Proof.OutIdeal.lean ====
module

public import proofs.«01_k».proof.Proof.RunIdeal

@[expose] public section

set_option maxRecDepth 16384

noncomputable section

namespace Cert.KernelIdeal.Out

open Cert.KernelIdeal Cert.KernelIdeal.Gen Cert.KernelIdeal.Body Cert.KernelIdeal.Run
open Idealize.ShloMosaic Idealize.ShloMosaic.TcCoe
open Idealize.SL Idealize.SL.Sem
open Idealize.ShloMosaic.Pipeline (Dat Cfg Window)
open Idealize.ShloMosaic.ValueIdx (ix2 eq_ix2)

variable {F : FTy → Type} [FloatOps F]

variable (m : (ℓ : Loc nD τ sig) → Buf (Elt F) ℓ) (ρ : Dev nD → PrngReg)

/-- The array the kernel writes, as a function of its four inputs: two blocks of 1024 rows. -/
def ofull (X : Vec F S2056x1024 .bf16) (P : Vec F S24x1024 .f32) (W : Vec F S3x1024x1024 .bf16) (WO : Vec F S1024x1024 .bf16) : Vec F S2048x1024 .f32 := fun y =>
  oblk X P W WO ⟨(y 0).val / 1024, by have : (y 0).val < 2048 := (y 0).isLt; omega⟩
    (ix2 ⟨(y 0).val % 1024, Nat.mod_lt _ (by decide)⟩ ⟨(y 1).val, (y 1).isLt⟩)

/-- The same, of the arrays the region finds. -/
abbrev ofin (c : Dev nD) : Vec F S2048x1024 .f32 := ofull (inX m c) (inP m c) (inW m c) (inWO m c)

/-- The output window's block at the two points that write it back. -/
theorem index4 : ∀ t : Fin cfg0.N, 20 ≤ t.val → (win0_4.index t 0 = t.val - 20 ∧ win0_4.index t 1 = 0) := by decide +kernel

/-- What is written back is the block of `ofin`. -/
theorem flushed_eq (c : Dev nD) (t : Fin cfg0.N) (hf : (cfg0.win 4).flush t = true) :
    (dats m 0 c).flushed 4 t = ((cfg0.win 4).blk t).view.read (Elt F) (ofin m c) := by
  have hN : cfg0.N = 22 := N_0
  have hlt := t.isLt
  have h20 := (flush4_iff t).mp hf
  obtain ⟨i0, i1⟩ := index4 t h20
  show (cfg0.win 4).cut (grid0.coords t) ((dats m 0 c).after 4 t) = _
  rw [after4]
  funext y
  show outAt m c t y = ofin m c ((win0_4.rect t).emb y)
  have e0 : ((win0_4.rect t).emb y 0).val = win0_4.index t 0 * 1024 + (y 0).val := win0_4.rect_emb_val t y 0
  have e1 : ((win0_4.rect t).emb y 1).val = win0_4.index t 1 * 1024 + (y 1).val := win0_4.rect_emb_val t y 1
  rw [i0] at e0; rw [i1] at e1
  have y0 : (y 0).val < 1024 := (y 0).isLt
  have y1 : (y 1).val < 1024 := (y 1).isLt
  unfold outAt ofin ofull
  have hb : (⟨(t.val - 20) % 2, Nat.mod_lt _ (by decide)⟩ : Fin 2) = ⟨((win0_4.rect t).emb y 0).val / 1024, by omega⟩ := Fin.ext (by
    show (t.val - 20) % 2 = ((win0_4.rect t).emb y 0).val / 1024; omega)
  rw [hb]
  refine congrArg _ (funext fun a => Fin.ext ?_)
  fin_cases a
  · show (y 0).val = ((win0_4.rect t).emb y 0).val % 1024; omega
  · show (y 1).val = ((win0_4.rect t).emb y 1).val; omega

/-- The array ends as `ofin`. -/
theorem final4 (c : Dev nD) : (dats m 0 c).arrAt 4 cfg0.N = ofin m c :=
  (dats m 0 c).arrAt_eq_of_cover 4 (ofin m c) (flushed_eq m c) fun i => by
    have hN : cfg0.N = 22 := N_0
    have h0 : (i 0 : Nat) < 2048 := (i 0).isLt
    have h1 : (i 1 : Nat) < 1024 := (i 1).isLt
    let t : Fin cfg0.N := ⟨20 + (i 0 : Nat) / 1024, by omega⟩
    have h20 : 20 ≤ t.val := by show 20 ≤ 20 + (i 0 : Nat) / 1024; omega
    obtain ⟨i0, i1⟩ := index4 t h20
    refine ⟨t, (flush4_iff t).mpr h20, ?_⟩
    show i ∈ ((View.whole main_v109).slice (win0_4.rect t)).set
    rw [View.set_slice_whole, Rect.mem_set_unit]
    have ht : t.val - 20 = (i 0 : Nat) / 1024 := by show 20 + (i 0 : Nat) / 1024 - 20 = _; omega
    intro a
    match a with
    | ⟨0, _⟩ =>
      show win0_4.index t 0 * 1024 ≤ (i 0 : Nat) ∧ (i 0 : Nat) < win0_4.index t 0 * 1024 + 1024
      rw [i0]; omega
    | ⟨1, _⟩ =>
      show win0_4.index t 1 * 1024 ≤ (i 1 : Nat) ∧ (i 1 : Nat) < win0_4.index t 1 * 1024 + 1024
      rw [i1]; omega

/-- The result the host makes of it: one more axis in front. -/
abbrev result (c : Dev nD) : Buf (Elt F) ((c : Thread nD τ).loc main_v110) :=
  broadcastInDim S1x2048x1024 ![1, 2] bcast_S2048x1024_S1x2048x1024_1_2 (ofin m c)

/-- The array the host returns is the result of the kernel, reshaped. -/
theorem W_main_v110 (c : Dev nD) : Pipeline.afterTail₀ cfgs (dats m) 0 (V0 m) [hostOps1] c main_v110 = result m c := by
  unfold Pipeline.afterTail₀
  have e : Pipeline.withArrays spec0 c (V0 m c) (fun w => (dats m 0 c).arrAt w cfg0.N) (Proc.devRef .tc main_v109) = ofin m c :=
    (Pipeline.withArrays_arr spec0 (by decide) c (V0 m c) _ 4).trans (final4 m c)
  simp only [hostOps1, List.flatten_cons, List.flatten_nil, List.append_nil, StableHlo.after_cons, StableHlo.after_nil]
  rw [StableHlo.unary_result', e]

/-- The run, read: the result, and the arguments unchanged. -/
theorem run : θ_run defs (onTc (τ := τ) (main (F := F))) ⟨m, fun _ => 0, ρ⟩ (fun r => (∀ c : Dev nD, r.2.mem ((c.tc : Thread nD τ).loc main_v110) = result m c)) :=
  (θ_run defs _ _).mono (fun _ h c => ((h.1 c).2 main_v110 (Pipeline.mem_restRefs_of main_v110 (by decide) (by decide))).trans (W_main_v110 m c)) (run_main m ρ)

end Cert.KernelIdeal.Out

end
-- ==== Proof.PayIdeal.lean ====
module

public import proofs.«01_k».proof.Proof.OutIdeal
public import Idealize.ShloMosaic.Lib.Pointwise

@[expose] public section

set_option maxRecDepth 16384

noncomputable section

namespace Cert.KernelIdeal.Pay

open Cert.KernelIdeal Cert.KernelIdeal.Gen Cert.KernelIdeal.Body
open Idealize.ShloMosaic Idealize.ShloMosaic.TcCoe

/-! ## What the payloads hold, entry by entry -/

/-- The q projection of one block, entry by entry. -/
theorem pay9_at (P : Vec Ideal S24x1024 .f32) (x : Vec Ideal S520x1024 .bf16) (w : Vec Ideal S1x1024x1024 .bf16) (r : Fin 512) (o : Fin 1024) :
    k0_pay9 (k0_pay1 P) x w (ix2 r o) =
      (∑ c : Fin 1024, ((x (ix2 ⟨r.val, by omega⟩ c) : EReal) * P (ix2 0 c) + x (ix2 ⟨1 + r.val, by omega⟩ c) * P (ix2 1 c)
        + x (ix2 ⟨2 + r.val, by omega⟩ c) * P (ix2 2 c) + P (ix2 3 c)) * w (ix3 0 o c)) + P (ix2 4 o) := by
  pointwise [k0_pay9, k0_pay1, k0_pay4, k0_pay5, k0_pay6, k0_pay7, k0_pay8]

/-- The k projection of one block, entry by entry. -/
theorem pay12_at (P : Vec Ideal S24x1024 .f32) (x : Vec Ideal S520x1024 .bf16) (w : Vec Ideal S1x1024x1024 .bf16) (r : Fin 512) (o : Fin 1024) :
    k0_pay12 (k0_pay1 P) (k0_pay6 x) (k0_pay7 x) (k0_pay8 (k0_pay1 P)) (k0_pay10 (k0_pay1 P) x) (k0_pay11 (k0_pay1 P)) w (ix2 r o) =
      (∑ c : Fin 1024, ((x (ix2 ⟨r.val, by omega⟩ c) : EReal) * P (ix2 8 c) + x (ix2 ⟨1 + r.val, by omega⟩ c) * P (ix2 9 c)
        + x (ix2 ⟨2 + r.val, by omega⟩ c) * P (ix2 10 c) + P (ix2 11 c)) * w (ix3 0 o c)) + P (ix2 12 o) := by
  pointwise [k0_pay12, k0_pay10, k0_pay11, k0_pay1, k0_pay4, k0_pay5, k0_pay6, k0_pay7, k0_pay8]

/-- The v projection of one block, entry by entry. -/
theorem pay2_at (P : Vec Ideal S24x1024 .f32) (x : Vec Ideal S520x1024 .bf16) (w : Vec Ideal S1x1024x1024 .bf16) (r : Fin 512) (o : Fin 1024) :
    k0_pay2 P (k0_pay13 (k0_pay5 x) (k0_pay6 x) (k0_pay7 x) (k0_pay8 (k0_pay1 P))) (k0_pay14 w) (ix2 r o) =
      (∑ c : Fin 1024, ((x (ix2 ⟨r.val, by omega⟩ c) : EReal) * P (ix2 16 c) + x (ix2 ⟨1 + r.val, by omega⟩ c) * P (ix2 17 c)
        + x (ix2 ⟨2 + r.val, by omega⟩ c) * P (ix2 18 c) + P (ix2 19 c)) * w (ix3 0 o c)) + P (ix2 20 o) := by
  pointwise [k0_pay2, k0_pay13, k0_pay14, k0_pay1, k0_pay4, k0_pay5, k0_pay6, k0_pay7, k0_pay8]

/-- The output projection of one block, entry by entry. -/
theorem pay3_at (P : Vec Ideal S24x1024 .f32) (c w : Vec Ideal S1024x1024 .bf16) (r o : Fin 1024) :
    k0_pay3 P c w (ix2 r o) = (∑ x : Fin 1024, (c (ix2 r x) : EReal) * w (ix2 o x)) + P (ix2 5 o) := by
  pointwise [k0_pay3, k0_pay1]

/-- The attention of one head of a pair: columns `64 j` to `64 j + 63` of the pair's 128. -/
theorem pay15_at (q : Vec Ideal S1024x128 .bf16) (k v : Vec Ideal S2048x128 .bf16) (r : Fin 1024) (j : Fin 2) (e : Fin 64) (d : Fin 128)
    (hd : d.val = 64 * j.val + e.val) :
    k0_pay15 q k v (ix2 r d) =
      Ideal.div
        (∑ s : Fin 2048, Ideal.exp (∑ a : Fin 64, (q (ix2 r ⟨64 * j.val + a.val, by omega⟩) : EReal) * k (ix2 s ⟨64 * j.val + a.val, by omega⟩)) * v (ix2 s d))
        (∑ s : Fin 2048, Ideal.exp (∑ a : Fin 64, (q (ix2 r ⟨64 * j.val + a.val, by omega⟩) : EReal) * k (ix2 s ⟨64 * j.val + a.val, by omega⟩))) := by
  have hj : j = 0 ∨ j = 1 := by omega
  pointwise [k0_pay15]
  rcases hj with rfl | rfl
  · have h : d.val < 64 := by simp at hd; omega
    simp only [h, dite_true]
    simp
  · have h : ¬ d.val < 64 := by simp at hd; omega
    have h2 : d.val - 64 < 64 := by omega
    have h3 : ∀ p, (⟨64 + (d.val - 64), p⟩ : Fin 128) = d := fun p => Fin.ext (by show 64 + (d.val - 64) = d.val; omega)
    simp only [h, h2, h3, dite_true, dite_false]
    simp

/-! ## The three projections, the attention and the output -/

variable (X : Vec Ideal S2056x1024 .bf16) (P : Vec Ideal S24x1024 .f32) (W : Vec Ideal S3x1024x1024 .bf16) (WO : Vec Ideal S1024x1024 .bf16)

/-- One projection: the depthwise filter of three taps, then the pointwise product with weight `s`, the parameters read
    from row `8 s` on. -/
def proj (s : Fin 3) (t : Fin 2048) (o : Fin 1024) : EReal :=
  (∑ c : Fin 1024, ((X (ix2 ⟨t.val, by omega⟩ c) : EReal) * P (ix2 ⟨8 * s.val, by omega⟩ c) + X (ix2 ⟨t.val + 1, by omega⟩ c) * P (ix2 ⟨8 * s.val + 1, by omega⟩ c)
    + X (ix2 ⟨t.val + 2, by omega⟩ c) * P (ix2 ⟨8 * s.val + 2, by omega⟩ c) + P (ix2 ⟨8 * s.val + 3, by omega⟩ c)) * W (ix3 s o c))
    + P (ix2 ⟨8 * s.val + 4, by omega⟩ o)

/-- A row of four stacked blocks is the row of the block it lies in. -/
theorem rowsOf_at (b : Fin 4 → Vec Ideal S512x1024 .bf16) (t : Fin 2048) (o : Fin 1024) :
    rowsOf b (ix2 t o) = b ⟨t.val / 512, by omega⟩ (ix2 ⟨t.val % 512, by omega⟩ o) := by
  unfold rowsOf
  refine congrArg (b _) (funext fun a => ?_)
  fin_cases a <;> rfl

/-- The rows of the input a block reads, entry by entry. -/
theorem xrows_at (n : Fin 4) (r : Fin 520) (c : Fin 1024) : xrows X n (ix2 r c) = X (ix2 ⟨512 * n.val + r.val, by omega⟩ c) := by
  unfold xrows VecWindow.window
  refine congrArg X (funext fun a => Fin.ext ?_)
  fin_cases a
  · show 512 * n.val + 1 * r.val = 512 * n.val + r.val; omega
  · show 0 + 1 * c.val = c.val; omega

/-- One slab of the packed weights, entry by entry. -/
theorem slab_at (s : Fin 3) (o c : Fin 1024) : slab W s (ix3 0 o c) = W (ix3 s o c) := by
  unfold slab VecWindow.window
  refine congrArg W (funext fun a => Fin.ext ?_)
  fin_cases a
  · show s.val + 1 * 0 = s.val; omega
  · show 0 + 1 * o.val = o.val; omega
  · show 0 + 1 * c.val = c.val; omega

/-- Half of the rows of an array, entry by entry. -/
theorem half_at (A : Vec Ideal S2048x1024 .bf16) (b : Fin 2) (r c : Fin 1024) : half A b (ix2 r c) = A (ix2 ⟨1024 * b.val + r.val, by omega⟩ c) := by
  unfold half VecWindow.window
  refine congrArg A (funext fun a => Fin.ext ?_)
  fin_cases a
  · show 1024 * b.val + 1 * r.val = 1024 * b.val + r.val; omega
  · show 0 + 1 * c.val = c.val; omega

/-- A tile of half the rows and one pair of heads, entry by entry. -/
theorem tile_at (A : Vec Ideal S2048x1024 .bf16) (b : Fin 2) (h : Fin 8) (r : Fin 1024) (c : Fin 128) :
    tile A b h (ix2 r c) = A (ix2 ⟨1024 * b.val + r.val, by omega⟩ ⟨128 * h.val + c.val, by omega⟩) := by
  unfold tile VecWindow.window
  refine congrArg A (funext fun a => Fin.ext ?_)
  fin_cases a
  · show 1024 * b.val + 1 * r.val = 1024 * b.val + r.val; omega
  · show 128 * h.val + 1 * c.val = 128 * h.val + c.val; omega

/-- The columns of one pair of heads, entry by entry. -/
theorem cols_at (A : Vec Ideal S2048x1024 .bf16) (h : Fin 8) (s : Fin 2048) (c : Fin 128) :
    cols A h (ix2 s c) = A (ix2 s ⟨128 * h.val + c.val, by omega⟩) := by
  unfold cols VecWindow.window
  refine congrArg A (funext fun a => Fin.ext ?_)
  fin_cases a
  · show 0 + 1 * s.val = s.val; omega
  · show 128 * h.val + 1 * c.val = 128 * h.val + c.val; omega

/-- The block and the row in it give back the row, moved by the tap. -/
theorem row_eq (t : Fin 2048) (i : ℕ) (h : 512 * (t.val / 512) + (i + t.val % 512) < 2056) :
    (⟨512 * (t.val / 512) + (i + t.val % 512), h⟩ : Fin 2056) = ⟨t.val + i, by omega⟩ := Fin.ext (by simp only []; omega)

/-- The block and the row in it give back the row. -/
theorem row_eq0 (t : Fin 2048) (h : 512 * (t.val / 512) + t.val % 512 < 2056) :
    (⟨512 * (t.val / 512) + t.val % 512, h⟩ : Fin 2056) = ⟨t.val, by omega⟩ := Fin.ext (by simp only []; omega)

/-- The full array of queries is the q projection. -/
theorem qfull_at (t : Fin 2048) (o : Fin 1024) : qfull X P W (ix2 t o) = proj X P W 0 t o := by
  unfold qfull
  rw [rowsOf_at]
  unfold qblk
  rw [pay9_at]
  simp only [xrows_at, slab_at, row_eq, row_eq0]
  rfl

/-- The full array of keys is the k projection. -/
theorem kfull_at (t : Fin 2048) (o : Fin 1024) : kfull X P W (ix2 t o) = proj X P W 1 t o := by
  unfold kfull
  rw [rowsOf_at]
  unfold kblk
  rw [pay12_at]
  simp only [xrows_at, slab_at, row_eq, row_eq0]
  rfl

/-- The full array of values is the v projection. -/
theorem vfull_at (t : Fin 2048) (o : Fin 1024) : vfull X P W (ix2 t o) = proj X P W 2 t o := by
  unfold vfull
  rw [rowsOf_at]
  unfold vblk
  rw [pay2_at]
  simp only [xrows_at, slab_at, row_eq, row_eq0]
  rfl

/-- The unnormalised weight of key row `s` for query row `t` in head `hd`. -/
def weight (hd : Fin 16) (t s : Fin 2048) : EReal :=
  Ideal.exp (∑ a : Fin 64, proj X P W 0 t ⟨64 * hd.val + a.val, by omega⟩ * proj X P W 1 s ⟨64 * hd.val + a.val, by omega⟩)

/-- The attention result at row `t`, column `o`. -/
def ctx (t : Fin 2048) (o : Fin 1024) : EReal :=
  Ideal.div (∑ s : Fin 2048, weight X P W ⟨o.val / 64, by omega⟩ t s * proj X P W 2 s o) (∑ s : Fin 2048, weight X P W ⟨o.val / 64, by omega⟩ t s)

/-- The full array of contexts is the softmax average of the values. -/
theorem cfull_at (t : Fin 2048) (o : Fin 1024) : cfull X P W (ix2 t o) = ctx X P W t o := by
  have h0 : cfull X P W (ix2 t o) = cblk X P W ⟨t.val / 1024, by omega⟩ ⟨o.val / 128, by omega⟩ (ix2 ⟨t.val % 1024, by omega⟩ ⟨o.val % 128, by omega⟩) := by
    unfold cfull
    refine congrArg (cblk X P W _ _) (funext fun a => ?_)
    fin_cases a <;> rfl
  rw [h0]
  unfold cblk
  rw [pay15_at _ _ _ _ ⟨o.val % 128 / 64, by omega⟩ ⟨o.val % 64, by omega⟩ _ (by show o.val % 128 = 64 * (o.val % 128 / 64) + o.val % 64; omega)]
  have e1 : (⟨1024 * (t.val / 1024) + t.val % 1024, by omega⟩ : Fin 2048) = t := Fin.ext (by simp only []; omega)
  have e2 : (⟨128 * (o.val / 128) + o.val % 128, by omega⟩ : Fin 1024) = o := Fin.ext (by simp only []; omega)
  have e3 : ∀ a : Fin 64, (⟨128 * (o.val / 128) + (64 * (o.val % 128 / 64) + a.val), by omega⟩ : Fin 1024) = ⟨64 * (o.val / 64) + a.val, by omega⟩ :=
    fun a => Fin.ext (by simp only []; omega)
  simp only [tile_at, cols_at, e1, e2, e3, qfull_at, kfull_at, vfull_at]
  rfl

/-- The kernel's whole output array at row `t`, column `o`. -/
theorem ofull_at (t : Fin 2048) (o : Fin 1024) :
    Out.ofull X P W WO (ix2 t o) = (∑ c : Fin 1024, ctx X P W t c * (WO (ix2 o c) : EReal)) + P (ix2 5 o) := by
  have h0 : Out.ofull X P W WO (ix2 t o) = oblk X P W WO ⟨t.val / 1024, by omega⟩ (ix2 ⟨t.val % 1024, by omega⟩ o) := by
    unfold Out.ofull
    refine congrArg (oblk X P W WO _) (funext fun a => ?_)
    fin_cases a <;> rfl
  have e1 : (⟨1024 * (t.val / 1024) + t.val % 1024, by omega⟩ : Fin 2048) = t := Fin.ext (by simp only []; omega)
  rw [h0]
  unfold oblk
  rw [pay3_at]
  simp only [half_at, e1, cfull_at]

end Cert.KernelIdeal.Pay
-- ==== Proof.Math.lean ====
module

public import Idealize.ShloMosaic.PureOps.Ideal.Laws

@[expose] public section

noncomputable section

namespace Cert.Attention

open Idealize.ShloMosaic

/-! ## The problem's mathematics at the ideal values -/

/-- The normalisation's constant, `1 / sqrt (1 + 1e-5)` rounded to f32. -/
def κ : ℝ := 16777132 / 16777216

/-- The literal of the normalisation factor is `κ`. -/
theorem ofBits_κ : Ideal.ofBits .f32 1065353132#32 = (κ : EReal) := by
  unfold κ
  simp [Ideal.ofBits, Ideal.ieee, -EReal.coe_mul]; norm_num

/-- The literal of the scaled normalisation factor is `κ / 8`. -/
theorem ofBits_κ8 : Ideal.ofBits .f32 1040187308#32 = ((κ / 8 : ℝ) : EReal) := by
  unfold κ
  simp [Ideal.ofBits, Ideal.ieee, -EReal.coe_mul]; norm_num

/-- The literal of the query scale is one eighth. -/
theorem ofBits_eighth : Ideal.ofBits .f32 1040187392#32 = ((1 / 8 : ℝ) : EReal) := by
  simp [Ideal.ofBits, Ideal.ieee, -EReal.coe_mul]; norm_num

/-- The literal of the score divisor is eight. -/
theorem ofBits_eight : Ideal.ofBits .f32 1090519040#32 = ((8 : ℝ) : EReal) := by
  simp [Ideal.ofBits, Ideal.ieee, -EReal.coe_mul]; norm_num

/-- The literal the row maximum starts from is the bottom element. -/
theorem ofBits_neg_inf : Ideal.ofBits .f32 4286578688#32 = ⊥ := by
  simp [Ideal.ofBits, Ideal.ieee]

/-- The parameters of one separable convolution. -/
structure Conv where
  dw : Fin 1024 → Fin 3 → EReal
  dwb : Fin 1024 → EReal
  g : Fin 1024 → EReal
  bb : Fin 1024 → EReal
  pw : Fin 1024 → Fin 1024 → EReal
  pwb : Fin 1024 → EReal

/-- The input with one row of zeros before and zeros after: row `n` is input row `n - 1`. -/
def xpad (x : Fin 2048 → Fin 1024 → EReal) (n : ℕ) (c : Fin 1024) : EReal :=
  if h : 1 ≤ n ∧ n - 1 < 2048 then x ⟨n - 1, h.2⟩ c else 0

/-- One separable convolution as the reference writes it. -/
def sepRef (x : Fin 2048 → Fin 1024 → EReal) (A : Conv) (κ : EReal) (t : Fin 2048) (o : Fin 1024) : EReal :=
  (∑ c, A.pw o c * ((xpad x t.val c * A.dw c 0 + xpad x (t.val + 1) c * A.dw c 1 + xpad x (t.val + 2) c * A.dw c 2 + A.dwb c) * κ * A.g c + A.bb c)) + A.pwb o

/-- One separable convolution as the kernel computes it: the normalisation folded into the taps, all scaled by `σ`. -/
def sepKer (x : Fin 2048 → Fin 1024 → EReal) (A : Conv) (κ σ : EReal) (t : Fin 2048) (o : Fin 1024) : EReal :=
  (∑ c, (xpad x t.val c * (A.dw c 0 * (A.g c * κ)) + xpad x (t.val + 1) c * (A.dw c 1 * (A.g c * κ)) + xpad x (t.val + 2) c * (A.dw c 2 * (A.g c * κ))
    + (A.dwb c * (A.g c * κ) + A.bb c * σ)) * A.pw o c) + A.pwb o * σ

/-- An array whose entries are all real numbers. -/
def Real1 {α : Type} (f : α → EReal) : Prop := ∃ r : α → ℝ, ∀ a, f a = (r a : EReal)

/-- An array of two indices whose entries are all real numbers. -/
def Real2 {α β : Type} (f : α → β → EReal) : Prop := ∃ r : α → β → ℝ, ∀ a b, f a b = (r a b : EReal)

/-- A family whose entries are each real is real. -/
theorem real1 {α : Type} {f : α → EReal} (h : ∀ a, ∃ r : ℝ, f a = (r : EReal)) : Real1 f := by
  choose r hr using h
  exact ⟨r, hr⟩

/-- A table whose entries are each real is real. -/
theorem real2 {α β : Type} {f : α → β → EReal} (h : ∀ a b, ∃ r : ℝ, f a b = (r : EReal)) : Real2 f := by
  choose r hr using h
  exact ⟨r, hr⟩

/-- A finite sum of reals is the same sum taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real number may be multiplied into a sum of a real number and anything. -/
theorem add_mul_coe (r : ℝ) (d : EReal) (c : ℝ) : ((r : EReal) + d) * (c : EReal) = (r : EReal) * c + d * c := by
  induction d with
  | coe d => norm_cast; ring
  | bot =>
    rcases lt_trichotomy c 0 with h | h | h
    · rw [EReal.add_bot, EReal.bot_mul_coe_of_neg h, ← EReal.coe_mul, EReal.coe_add_top]
    · subst h; simp
    · rw [EReal.add_bot, EReal.bot_mul_coe_of_pos h, ← EReal.coe_mul, EReal.add_bot]
  | top =>
    rcases lt_trichotomy c 0 with h | h | h
    · rw [EReal.coe_add_top, EReal.top_mul_coe_of_neg h, ← EReal.coe_mul, EReal.add_bot]
    · subst h; simp
    · rw [EReal.coe_add_top, EReal.top_mul_coe_of_pos h, ← EReal.coe_mul, EReal.coe_add_top]

/-- A real factor that is not negative distributes over a finite sum of extended reals. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A real sequence between rows of zeros is real. -/
theorem xpad_real {x : Fin 2048 → Fin 1024 → EReal} (hx : Real2 x) : Real2 (xpad x) := by
  obtain ⟨r, hr⟩ := hx
  refine ⟨fun n c => if h : 1 ≤ n ∧ n - 1 < 2048 then r ⟨n - 1, h.2⟩ c else 0, fun n c => ?_⟩
  unfold xpad
  by_cases h : 1 ≤ n ∧ n - 1 < 2048
  · simp only [h, and_self, dite_true, hr]
  · simp only [h, dite_false, EReal.coe_zero]

/-- With a real input, real taps and a real gain, the folded normalisation is the normalisation. -/
theorem sepKer_eq {x : Fin 2048 → Fin 1024 → EReal} (A : Conv) (κ : ℝ) (hx : Real2 x) (hdw : Real2 A.dw) (hg : Real1 A.g) (t : Fin 2048) (o : Fin 1024) :
    sepKer x A κ 1 t o = sepRef x A κ t o := by
  obtain ⟨z, hz⟩ := xpad_real hx
  obtain ⟨w, hw⟩ := hdw
  obtain ⟨g, hg⟩ := hg
  unfold sepKer sepRef
  rw [mul_one]
  refine congrArg (· + A.pwb o) (Finset.sum_congr rfl fun c _ => ?_)
  rw [mul_comm (A.pw o c)]
  refine congrArg (· * A.pw o c) ?_
  simp only [hz, hw, hg, mul_one]
  rw [mul_assoc (_ + A.dwb c) (κ : EReal), ← EReal.coe_mul κ, ← EReal.coe_mul (z _ c), ← EReal.coe_mul (z _ c), ← EReal.coe_mul (z _ c), ← EReal.coe_add, ← EReal.coe_add,
    add_mul_coe, ← add_assoc, ← EReal.coe_mul (g c) κ, mul_comm (g c) κ]
  refine congrArg (· + A.bb c) (congrArg (· + A.dwb c * ((κ * g c : ℝ) : EReal)) ?_)
  norm_cast
  ring

/-- With all parameters real the convolution is real, and the kernel's at one eighth is an eighth of it. -/
theorem sep_real {x : Fin 2048 → Fin 1024 → EReal} (A : Conv) (κ κ8 σ8 : ℝ) (hκ : κ8 = κ / 8) (hσ : σ8 = 1 / 8) (hx : Real2 x) (hdw : Real2 A.dw) (hdwb : Real1 A.dwb) (hg : Real1 A.g)
    (hbb : Real1 A.bb) (hpw : Real2 A.pw) (hpwb : Real1 A.pwb) :
    ∃ r : Fin 2048 → Fin 1024 → ℝ, (∀ t o, sepRef x A κ t o = (r t o : EReal)) ∧ ∀ t o, sepKer x A κ8 σ8 t o = ((r t o / 8 : ℝ) : EReal) := by
  obtain ⟨z, hz⟩ := xpad_real hx
  obtain ⟨w, hw⟩ := hdw
  obtain ⟨d, hd⟩ := hdwb
  obtain ⟨g, hg⟩ := hg
  obtain ⟨b, hb⟩ := hbb
  obtain ⟨p, hp⟩ := hpw
  obtain ⟨e, he⟩ := hpwb
  refine ⟨fun t o => (∑ c, p o c * ((z t.val c * w c 0 + z (t.val + 1) c * w c 1 + z (t.val + 2) c * w c 2 + d c) * κ * g c + b c)) + e o, fun t o => ?_, fun t o => ?_⟩
  · unfold sepRef
    simp only [hz, hw, hd, hg, hb, hp, he, EReal.coe_add, EReal.coe_mul, coe_sum]
  · unfold sepKer
    simp only [hz, hw, hd, hg, hb, hp, he, ← EReal.coe_add, ← EReal.coe_mul, ← coe_sum]
    refine congrArg _ ?_
    subst hκ hσ
    rw [add_div, Finset.sum_div]
    refine congrArg₂ (· + ·) (Finset.sum_congr rfl fun c _ => ?_) ?_
    · ring
    · ring

/-- Weighting by normalised exponentials shifted by a real number is dividing the weighted sum by the sum of the exponentials, whatever the
    weighted values. -/
theorem softmax_eq {n : ℕ} (hn : 0 < n) (σ : Fin n → ℝ) (M : ℝ) (v : Fin n → EReal) :
    (∑ s, Ideal.div (Ideal.exp ((σ s : EReal) - (M : EReal))) (∑ u, Ideal.exp ((σ u : EReal) - (M : EReal))) * v s)
      = Ideal.div (∑ s, Ideal.exp (σ s : EReal) * v s) (∑ s, Ideal.exp (σ s : EReal)) := by
  haveI : Nonempty (Fin n) := ⟨⟨0, hn⟩⟩
  have hD : 0 < ∑ s : Fin n, Real.exp (σ s) := Finset.sum_pos (fun _ _ => Real.exp_pos _) Finset.univ_nonempty
  have hE : 0 < ∑ s : Fin n, Real.exp (σ s - M) := Finset.sum_pos (fun _ _ => Real.exp_pos _) Finset.univ_nonempty
  simp only [← EReal.coe_sub, Ideal.exp_coe, ← coe_sum]
  rw [Ideal.div_coe hD.ne', sum_mul_coe _ _ _ (by positivity)]
  refine Finset.sum_congr rfl fun s _ => ?_
  rw [Ideal.div_coe hE.ne', mul_right_comm (Real.exp (σ s) : EReal), ← EReal.coe_mul, ← EReal.coe_mul]
  refine congrArg (fun r : ℝ => (r : EReal) * v s) ?_
  have h : ∑ u : Fin n, Real.exp (σ u - M) = (∑ u : Fin n, Real.exp (σ u)) * Real.exp (-M) := by
    rw [Finset.sum_mul]
    exact Finset.sum_congr rfl fun u _ => by rw [← Real.exp_add, sub_eq_add_neg]
  rw [h, sub_eq_add_neg, Real.exp_add]
  have := Real.exp_pos (-M)
  field_simp

/-- The products of query row `t` and key row `s` over the 64 channels of head `h`. -/
def score (Q K : Fin 2048 → Fin 1024 → EReal) (h : Fin 16) (t s : Fin 2048) : EReal :=
  ∑ a : Fin 64, Q t ⟨64 * h.val + a.val, by omega⟩ * K s ⟨64 * h.val + a.val, by omega⟩

/-- The attention result as the kernel computes it: no shift, one division at the end. -/
def ctxKer (Q K V : Fin 2048 → Fin 1024 → EReal) (t : Fin 2048) (o : Fin 1024) : EReal :=
  Ideal.div (∑ s, Ideal.exp (score Q K ⟨o.val / 64, by omega⟩ t s) * V s o) (∑ s, Ideal.exp (score Q K ⟨o.val / 64, by omega⟩ t s))

/-- The attention result as the reference writes it: the scores over eight, less `M`, exponentiated, normalised, then the weighted sum. -/
def ctxRef (Q K V : Fin 2048 → Fin 1024 → EReal) (M : Fin 16 → Fin 2048 → EReal) (t : Fin 2048) (o : Fin 1024) : EReal :=
  ∑ s, Ideal.div (Ideal.exp (Ideal.div (score Q K ⟨o.val / 64, by omega⟩ t s) ((8 : ℝ) : EReal) - M ⟨o.val / 64, by omega⟩ t))
    (∑ u, Ideal.exp (Ideal.div (score Q K ⟨o.val / 64, by omega⟩ t u) ((8 : ℝ) : EReal) - M ⟨o.val / 64, by omega⟩ t)) * V s o

/-- The scores of real queries and keys are real, and those of the queries over eight are an eighth of them. -/
theorem score_real (q k : Fin 2048 → Fin 1024 → ℝ) : ∃ r : Fin 16 → Fin 2048 → Fin 2048 → ℝ, ∀ h t s,
    Ideal.div (score (fun t o => (q t o : EReal)) (fun t o => (k t o : EReal)) h t s) ((8 : ℝ) : EReal) = (r h t s : EReal)
      ∧ score (fun t o => ((q t o / 8 : ℝ) : EReal)) (fun t o => (k t o : EReal)) h t s = (r h t s : EReal) := by
  refine ⟨fun h t s => (∑ a : Fin 64, q t ⟨64 * h.val + a.val, by omega⟩ * k s ⟨64 * h.val + a.val, by omega⟩) * (1 / 8), fun h t s => ⟨?_, ?_⟩⟩
  · rw [Ideal.div_coe (by norm_num)]
    unfold score
    simp only [EReal.coe_mul, coe_sum]
  · unfold score
    simp only [← EReal.coe_mul, ← coe_sum]
    refine congrArg _ ?_
    rw [Finset.sum_mul]
    exact Finset.sum_congr rfl fun a _ => by ring

/-- With real queries, keys and shifts, the two attention results are equal, whatever the values. -/
theorem ctx_eq (q k : Fin 2048 → Fin 1024 → ℝ) (V : Fin 2048 → Fin 1024 → EReal) (M : Fin 16 → Fin 2048 → EReal) (hM : Real2 M) (t : Fin 2048) (o : Fin 1024) :
    ctxRef (fun t o => (q t o : EReal)) (fun t o => (k t o : EReal)) V M t o
      = ctxKer (fun t o => ((q t o / 8 : ℝ) : EReal)) (fun t o => (k t o : EReal)) V t o := by
  obtain ⟨r, hr⟩ := score_real q k
  obtain ⟨μ, hμ⟩ := hM
  unfold ctxRef ctxKer
  simp only [(hr _ _ _).1, (hr _ _ _).2, hμ]
  exact softmax_eq (by norm_num) _ _ _

end Cert.Attention
-- ==== Proof.HostIdeal.lean ====
module

public import proofs.«01_k».proof.Proof.OutIdeal
public import proofs.«01_k».proof.Proof.Math
public import Idealize.ShloMosaic.Lib.StableHlo.ReadAt
public import Idealize.ShloMosaic.Lib.Pointwise

@[expose] public section

set_option maxRecDepth 16384

noncomputable section

namespace Cert.KernelIdeal.Host

open Cert.KernelIdeal Cert.KernelIdeal.Gen Cert.KernelIdeal.Body Cert.KernelIdeal.Run
open Idealize.ShloMosaic Idealize.ShloMosaic.TcCoe Cert.Attention

variable (m : (ℓ : Loc nD τ sig) → Buf (Elt Ideal) ℓ)

/-! ## The arguments as plain functions -/

/-- The array held in an argument's buffer on device `c`. -/
abbrev arg (c : Dev nD) (r : Ref sig .tc) : Buf (Elt Ideal) ((c.tc : Thread nD τ).loc r) := m ((c.tc : Thread nD τ).loc r)

/-- The input. -/
def xs (c : Dev nD) (t : Fin 2048) (d : Fin 1024) : EReal := arg m c main_arg0 (ix3 0 t d)
/-- The parameters of the queries' convolution. -/
def convq (c : Dev nD) : Conv :=
  ⟨fun d i => arg m c main_arg1 (ix3 d 0 i), fun d => arg m c main_arg2 (ix1 d), fun d => arg m c main_arg3 (ix1 d), fun d => arg m c main_arg4 (ix1 d),
    fun o d => arg m c main_arg5 (ix3 o d 0), fun o => arg m c main_arg6 (ix1 o)⟩
/-- The parameters of the keys' convolution. -/
def convk (c : Dev nD) : Conv :=
  ⟨fun d i => arg m c main_arg7 (ix3 d 0 i), fun d => arg m c main_arg8 (ix1 d), fun d => arg m c main_arg9 (ix1 d), fun d => arg m c main_arg10 (ix1 d),
    fun o d => arg m c main_arg11 (ix3 o d 0), fun o => arg m c main_arg12 (ix1 o)⟩
/-- The parameters of the values' convolution. -/
def convv (c : Dev nD) : Conv :=
  ⟨fun d i => arg m c main_arg13 (ix3 d 0 i), fun d => arg m c main_arg14 (ix1 d), fun d => arg m c main_arg15 (ix1 d), fun d => arg m c main_arg16 (ix1 d),
    fun o d => arg m c main_arg17 (ix3 o d 0), fun o => arg m c main_arg18 (ix1 o)⟩
/-- The output weight. -/
def wo (c : Dev nD) (o d : Fin 1024) : EReal := arg m c main_arg19 (ix2 o d)
/-- The output bias. -/
def ob (c : Dev nD) (o : Fin 1024) : EReal := arg m c main_arg20 (ix1 o)

/-! ## What the host prepares, entry by entry -/

/-- Packed parameters: tap 0 of q times the normalisation factor. -/
theorem row0 (c : Dev nD) (d : Fin 1024) : inP m c (ix2 0 d) = (convq m c).dw d 0 * ((convq m c).g d * Ideal.ofBits .f32 1040187308#32) := by
  unfold inP V V0
  after_reads_at
  after_reads_at
  rfl

/-- Packed parameters: tap 1 of q times the normalisation factor. -/
theorem row1 (c : Dev nD) (d : Fin 1024) : inP m c (ix2 1 d) = (convq m c).dw d 1 * ((convq m c).g d * Ideal.ofBits .f32 1040187308#32) := by
  unfold inP V V0
  after_reads_at
  after_reads_at
  rfl

/-- Packed parameters: tap 2 of q times the normalisation factor. -/
theorem row2 (c : Dev nD) (d : Fin 1024) : inP m c (ix2 2 d) = (convq m c).dw d 2 * ((convq m c).g d * Ideal.ofBits .f32 1040187308#32) := by
  unfold inP V V0
  after_reads_at
  after_reads_at
  rfl

/-- Packed parameters: the bias of q after the normalisation. -/
theorem row3 (c : Dev nD) (d : Fin 1024) : inP m c (ix2 3 d) = (convq m c).dwb d * ((convq m c).g d * Ideal.ofBits .f32 1040187308#32) + (convq m c).bb d * Ideal.ofBits .f32 1040187392#32 := by
  unfold inP V V0
  after_reads_at
  after_reads_at
  rfl

/-- Packed parameters: the pointwise bias of q, scaled. -/
theorem row4 (c : Dev nD) (d : Fin 1024) : inP m c (ix2 4 d) = (convq m c).pwb d * Ideal.ofBits .f32 1040187392#32 := by
  unfold inP V V0
  after_reads_at
  after_reads_at
  rfl

/-- Packed parameters: tap 0 of k times the normalisation factor. -/
theorem row8 (c : Dev nD) (d : Fin 1024) : inP m c (ix2 8 d) = (convk m c).dw d 0 * ((convk m c).g d * Ideal.ofBits .f32 1065353132#32) := by
  unfold inP V V0
  after_reads_at
  after_reads_at
  rfl

/-- Packed parameters: tap 1 of k times the normalisation factor. -/
theorem row9 (c : Dev nD) (d : Fin 1024) : inP m c (ix2 9 d) = (convk m c).dw d 1 * ((convk m c).g d * Ideal.ofBits .f32 1065353132#32) := by
  unfold inP V V0
  after_reads_at
  after_reads_at
  rfl

/-- Packed parameters: tap 2 of k times the normalisation factor. -/
theorem row10 (c : Dev nD) (d : Fin 1024) : inP m c (ix2 10 d) = (convk m c).dw d 2 * ((convk m c).g d * Ideal.ofBits .f32 1065353132#32) := by
  unfold inP V V0
  after_reads_at
  after_reads_at
  rfl

/-- Packed parameters: the bias of k after the normalisation. -/
theorem row11 (c : Dev nD) (d : Fin 1024) : inP m c (ix2 11 d) = (convk m c).dwb d * ((convk m c).g d * Ideal.ofBits .f32 1065353132#32) + (convk m c).bb d := by
  unfold inP V V0
  after_reads_at
  after_reads_at
  rfl

/-- Packed parameters: the pointwise bias of k. -/
theorem row12 (c : Dev nD) (d : Fin 1024) : inP m c (ix2 12 d) = (convk m c).pwb d := by
  unfold inP V V0
  after_reads_at
  after_reads_at
  rfl

/-- Packed parameters: tap 0 of v times the normalisation factor. -/
theorem row16 (c : Dev nD) (d : Fin 1024) : inP m c (ix2 16 d) = (convv m c).dw d 0 * ((convv m c).g d * Ideal.ofBits .f32 1065353132#32) := by
  unfold inP V V0
  after_reads_at
  after_reads_at
  rfl

/-- Packed parameters: tap 1 of v times the normalisation factor. -/
theorem row17 (c : Dev nD) (d : Fin 1024) : inP m c (ix2 17 d) = (convv m c).dw d 1 * ((convv m c).g d * Ideal.ofBits .f32 1065353132#32) := by
  unfold inP V V0
  after_reads_at
  after_reads_at
  rfl

/-- Packed parameters: tap 2 of v times the normalisation factor. -/
theorem row18 (c : Dev nD) (d : Fin 1024) : inP m c (ix2 18 d) = (convv m c).dw d 2 * ((convv m c).g d * Ideal.ofBits .f32 1065353132#32) := by
  unfold inP V V0
  after_reads_at
  after_reads_at
  rfl

/-- Packed parameters: the bias of v after the normalisation. -/
theorem row19 (c : Dev nD) (d : Fin 1024) : inP m c (ix2 19 d) = (convv m c).dwb d * ((convv m c).g d * Ideal.ofBits .f32 1065353132#32) + (convv m c).bb d := by
  unfold inP V V0
  after_reads_at
  after_reads_at
  rfl

/-- Packed parameters: the pointwise bias of v. -/
theorem row20 (c : Dev nD) (d : Fin 1024) : inP m c (ix2 20 d) = (convv m c).pwb d := by
  unfold inP V V0
  after_reads_at
  after_reads_at
  rfl

/-- Row 5 of the packed parameters is the output bias. -/
theorem row5 (c : Dev nD) (d : Fin 1024) : inP m c (ix2 5 d) = ob m c d := by
  unfold inP V V0
  after_reads_at
  after_reads_at
  rfl

/-- Packed weights: slab 0 holds the pointwise weights of q. -/
theorem slab0 (c : Dev nD) (o d : Fin 1024) : inW m c (ix3 0 o d) = (convq m c).pw o d := by
  unfold inW V V0
  after_reads_at
  after_reads_at
  rfl

/-- Packed weights: slab 1 holds the pointwise weights of k. -/
theorem slab1 (c : Dev nD) (o d : Fin 1024) : inW m c (ix3 1 o d) = (convk m c).pw o d := by
  unfold inW V V0
  after_reads_at
  after_reads_at
  rfl

/-- Packed weights: slab 2 holds the pointwise weights of v. -/
theorem slab2 (c : Dev nD) (o d : Fin 1024) : inW m c (ix3 2 o d) = (convv m c).pw o d := by
  unfold inW V V0
  after_reads_at
  after_reads_at
  rfl

/-- The output weights the kernel is given are the argument itself. -/
theorem wo_at (c : Dev nD) (o d : Fin 1024) : inWO m c (ix2 o d) = wo m c o d := by
  unfold inWO V V0
  after_reads_at
  rfl

/-- The integer zero converted to a float is zero. -/
theorem sitofp_zero : (FloatOps.sitofp FTy.f32 0#32 : Ideal .f32) = (0 : EReal) := by
  show (((0#32 : BitVec 32).toInt : ℝ) : EReal) = 0
  norm_num

/-- The input the kernel is given is the input sequence between rows of zeros. -/
theorem x_at (c : Dev nD) (s : Fin 2056) (d : Fin 1024) : inX m c (ix2 s d) = xpad (xs m c) s.val d := by
  unfold inX V V0 xpad
  after_reads_at
  rw [sitofp_zero]
  rfl

end Cert.KernelIdeal.Host
-- ==== Proof.ValIdeal.lean ====
module

public import proofs.«01_k».proof.Proof.PayIdeal
public import proofs.«01_k».proof.Proof.HostIdeal

@[expose] public section

set_option maxRecDepth 16384

noncomputable section

namespace Cert.KernelIdeal.Val

open Cert.KernelIdeal Cert.KernelIdeal.Gen Cert.KernelIdeal.Body Cert.KernelIdeal.Run Cert.KernelIdeal.Host
open Idealize.ShloMosaic Idealize.ShloMosaic.TcCoe Cert.Attention

variable (m : (ℓ : Loc nD τ sig) → Buf (Elt Ideal) ℓ) (c : Dev nD)

/-- A projection of the prepared arrays is the convolution with the normalisation folded in, when its rows and its weight are. -/
theorem proj_eq (s : Fin 3) (A : Conv) (k σ : EReal)
    (h0 : ∀ d, inP m c (ix2 ⟨8 * s.val, by omega⟩ d) = A.dw d 0 * (A.g d * k))
    (h1 : ∀ d, inP m c (ix2 ⟨8 * s.val + 1, by omega⟩ d) = A.dw d 1 * (A.g d * k))
    (h2 : ∀ d, inP m c (ix2 ⟨8 * s.val + 2, by omega⟩ d) = A.dw d 2 * (A.g d * k))
    (h3 : ∀ d, inP m c (ix2 ⟨8 * s.val + 3, by omega⟩ d) = A.dwb d * (A.g d * k) + A.bb d * σ)
    (h4 : ∀ d, inP m c (ix2 ⟨8 * s.val + 4, by omega⟩ d) = A.pwb d * σ)
    (hw : ∀ o d, inW m c (ix3 s o d) = A.pw o d) :
    Pay.proj (inX m c) (inP m c) (inW m c) s = sepKer (xs m c) A k σ := by
  funext t o
  unfold Pay.proj sepKer
  have hx : ∀ (s : Fin 2056) (d : Fin 1024), @Eq EReal (inX m c (ix2 s d)) (xpad (xs m c) s.val d) := x_at m c
  simp only [hx, h0, h1, h2, h3, h4, hw]

/-- The q projection of the kernel is the folded separable convolution, scaled by one eighth. -/
theorem projq : Pay.proj (inX m c) (inP m c) (inW m c) 0 = sepKer (xs m c) (convq m c) ((κ / 8 : ℝ) : EReal) ((1 / 8 : ℝ) : EReal) := by
  rw [← ofBits_κ8, ← ofBits_eighth]
  exact proj_eq m c 0 _ _ _ (row0 m c) (row1 m c) (row2 m c) (row3 m c) (row4 m c) (slab0 m c)

/-- The k projection of the kernel is the folded separable convolution. -/
theorem projk : Pay.proj (inX m c) (inP m c) (inW m c) 1 = sepKer (xs m c) (convk m c) (κ : EReal) 1 := by
  rw [← ofBits_κ]
  exact proj_eq m c 1 _ _ _ (row8 m c) (row9 m c) (row10 m c) (fun d => (row11 m c d).trans (by rw [mul_one])) (fun d => (row12 m c d).trans (by rw [mul_one])) (slab1 m c)

/-- The v projection of the kernel is the folded separable convolution. -/
theorem projv : Pay.proj (inX m c) (inP m c) (inW m c) 2 = sepKer (xs m c) (convv m c) (κ : EReal) 1 := by
  rw [← ofBits_κ]
  exact proj_eq m c 2 _ _ _ (row16 m c) (row17 m c) (row18 m c) (fun d => (row19 m c d).trans (by rw [mul_one])) (fun d => (row20 m c d).trans (by rw [mul_one])) (slab2 m c)

/-- The kernel's result at row `t`, column `o`. -/
theorem result_at (t : Fin 2048) (o : Fin 1024) :
    (Out.result m c : FVec Ideal S1x2048x1024 .f32) (ix3 0 t o)
      = (∑ d, ctxKer (sepKer (xs m c) (convq m c) ((κ / 8 : ℝ) : EReal) ((1 / 8 : ℝ) : EReal)) (sepKer (xs m c) (convk m c) (κ : EReal) 1)
          (sepKer (xs m c) (convv m c) (κ : EReal) 1) t d * wo m c o d) + ob m c o := by
  have h : (Out.result m c : FVec Ideal S1x2048x1024 .f32) (ix3 0 t o) = Out.ofull (inX m c) (inP m c) (inW m c) (inWO m c) (ix2 t o) := by
    unfold Out.result Out.ofin
    generalize Out.ofull (inX m c) (inP m c) (inW m c) (inWO m c) = y
    pointwise
  have hw : ∀ o d : Fin 1024, @Eq EReal (inWO m c (ix2 o d)) (wo m c o d) := wo_at m c
  rw [h, Pay.ofull_at, row5, ← projq, ← projk, ← projv]
  simp only [hw]
  rfl

end Cert.KernelIdeal.Val
-- ==== Proof.RefIdeal.lean ====
module

public import proofs.«01_k».proof.Proof.Gen.ReferenceIdeal.Run
public import proofs.«01_k».proof.Proof.Math
public import Idealize.ShloMosaic.Lib.Pointwise

@[expose] public section

set_option maxRecDepth 16384

noncomputable section

namespace Cert.ReferenceIdeal.Read

open Cert.ReferenceIdeal Cert.ReferenceIdeal.Gen
open Idealize.ShloMosaic Idealize.ShloMosaic.TcCoe Cert.Attention

/-! ## The reference's result, stage by stage -/

section Stages

variable (x : FVec Ideal S1x2048x1024 .f32) (dw : FVec Ideal S1024x1x3 .f32) (dwb g bb : FVec Ideal S1024 .f32)
  (pw : FVec Ideal S1024x1024x1 .f32) (pwb : FVec Ideal S1024 .f32)

/-- The input, channels first, with one row of zeros before and one after. -/
def padded : FVec Ideal S1x1024x2050 .f32 :=
  pad S1x1024x2050 ![0, 0, 1] ![0, 0, 1] ![0, 0, 0] (transpose S1x1024x2048 [0, 2, 1] x transposes_S1x2048x1024_S1x1024x2048_0_2_1)
    (sitofp .f32 (constantI S_ 32 0#32)) pads_S1x1024x2048_S1x1024x2050_000_000_110 h_S_

/-- A value per channel, repeated over the rows. -/
def perChannel (v : FVec Ideal S1024 .f32) : FVec Ideal S1x1024x2048 .f32 :=
  broadcastInDim S1x1024x2048 ![0, 1, 2] bcast_S1x1024x1_S1x1024x2048_0_1_2 (broadcastInDim S1x1024x1 ![1] bcast_S1024_S1x1024x1_1 v)

/-- A tap per channel, repeated over the rows. -/
def perTap (v : FVec Ideal S1024x1x1 .f32) : FVec Ideal S1x1024x2048 .f32 :=
  broadcastInDim S1x1024x2048 ![0, 1, 2] bcast_S1x1024x1_S1x1024x2048_0_1_2
    (broadcastInDim S1x1024x1 ![1, 2] bcast_S1024x1_S1x1024x1_1_2 (shapeCast _ v shapeCasts_S1024x1x1_S1024x1))

/-- The depthwise filter with its bias. -/
def filtered : FVec Ideal S1x1024x2048 .f32 :=
  addf (addf (addf
    (mulf (extractStridedSlice S1x1024x2048 ![0, 0, 0] (padded x) slices_S1x1024x2050_S1x1024x2048_0_0_0) (perTap (extractStridedSlice S1024x1x1 ![0, 0, 0] dw slices_S1024x1x3_S1024x1x1_0_0_0)))
    (mulf (extractStridedSlice S1x1024x2048 ![0, 0, 1] (padded x) slices_S1x1024x2050_S1x1024x2048_0_0_1) (perTap (extractStridedSlice S1024x1x1 ![0, 0, 1] dw slices_S1024x1x3_S1024x1x1_0_0_1))))
    (mulf (extractStridedSlice S1x1024x2048 ![0, 0, 2] (padded x) slices_S1x1024x2050_S1x1024x2048_0_0_2) (perTap (extractStridedSlice S1024x1x1 ![0, 0, 2] dw slices_S1024x1x3_S1024x1x1_0_0_2))))
    (perChannel dwb)

/-- The filter after the batch normalisation. -/
def normed : FVec Ideal S1x1024x2048 .f32 :=
  addf (mulf (mulf (filtered x dw dwb) (broadcastInDim S1x1024x2048 ![] bcast_S_S1x1024x2048 (constant S_ .f32 0x3F7FFFAC#32))) (perChannel g)) (perChannel bb)

/-- One separable convolution, rows first. -/
def sepconv : FVec Ideal S1x2048x1024 .f32 :=
  transpose S1x2048x1024 [0, 2, 1] (addf (transpose S1x1024x2048 [1, 0, 2]
    (Host.dotGeneral dot_S1024x1024_S1x1024x2048_S1024x1x2048_1_1_0_02_n_n none (shapeCast _ pw shapeCasts_S1024x1024x1_S1024x1024) (normed x dw dwb g bb))
    transposes_S1024x1x2048_S1x1024x2048_1_0_2) (perChannel pwb)) transposes_S1x1024x2048_S1x2048x1024_0_2_1

/-- The channels split into sixteen heads. -/
def heads (y : FVec Ideal S1x2048x1024 .f32) : FVec Ideal S1x16x2048x64 .f32 :=
  transpose S1x16x2048x64 [0, 2, 1, 3] (shapeCast _ y shapeCasts_S1x2048x1024_S1x2048x16x64) transposes_S1x2048x16x64_S1x16x2048x64_0_2_1_3

/-- The scores of every query row against every key row. -/
def scores (q k : FVec Ideal S1x16x2048x64 .f32) : FVec Ideal S1x16x2048x2048 .f32 :=
  Host.divf (Host.dotGeneral dot_S1x16x2048x64_S1x16x2048x64_S1x16x2048x2048_3_3_2_2_01_01 none q k)
    (broadcastInDim S1x16x2048x2048 ![] bcast_S_S1x16x2048x2048 (constant S_ .f32 0x41000000#32))

/-- A value per query row, repeated over the key rows. -/
def perRow (v : FVec Ideal S1x16x2048 .f32) : FVec Ideal S1x16x2048x2048 .f32 :=
  broadcastInDim S1x16x2048x2048 ![0, 1, 2, 3] bcast_S1x16x2048x1_S1x16x2048x2048_0_1_2_3 (broadcastInDim S1x16x2048x1 ![0, 1, 2] bcast_S1x16x2048_S1x16x2048x1_0_1_2 v)

/-- The largest score of each query row. -/
def rowMax (s : FVec Ideal S1x16x2048x2048 .f32) : FVec Ideal S1x16x2048 .f32 :=
  maximumf (broadcastInDim S1x16x2048 ![] bcast_S_S1x16x2048 (constant S_ .f32 0xFF800000#32))
    (Host.reduce FloatOps.maximumf s (constant S_ .f32 0xFF800000#32) reducesTo_S1x16x2048x2048_S1x16x2048_d3 h_S_)

/-- The exponentials of the scores less a value per row. -/
def expo (s : FVec Ideal S1x16x2048x2048 .f32) (mx : FVec Ideal S1x16x2048 .f32) : FVec Ideal S1x16x2048x2048 .f32 := Host.exp (subf s (perRow mx))

/-- Each row divided by its sum. -/
def normal (e : FVec Ideal S1x16x2048x2048 .f32) : FVec Ideal S1x16x2048x2048 .f32 :=
  Host.divf e (perRow (Host.reduceAdd e (constant S_ .f32 0x00000000#32) reducesTo_S1x16x2048x2048_S1x16x2048_d3 h_S_))

/-- The values weighted, the heads put side by side. -/
def mixed (a : FVec Ideal S1x16x2048x2048 .f32) (v : FVec Ideal S1x16x2048x64 .f32) : FVec Ideal S1x2048x1024 .f32 :=
  shapeCast _ (transpose S1x2048x16x64 [0, 2, 1, 3] (Host.dotGeneral dot_S1x16x2048x2048_S1x16x2048x64_S1x16x2048x64_3_2_2_3_01_01 none a v)
    transposes_S1x16x2048x64_S1x2048x16x64_0_2_1_3) shapeCasts_S1x2048x16x64_S1x2048x1024

/-- The output projection with its bias. -/
def outp (y : FVec Ideal S1x2048x1024 .f32) (wo : FVec Ideal S1024x1024 .f32) (ob : FVec Ideal S1024 .f32) : FVec Ideal S1x2048x1024 .f32 :=
  addf (Host.dotGeneral dot_S1x2048x1024_S1024x1024_S1x2048x1024_2_0_01_1_n_n none y (transpose S1024x1024 [1, 0] wo transposes_S1024x1024_S1024x1024_1_0))
    (broadcastInDim S1x2048x1024 ![0, 1, 2] bcast_S1x1x1024_S1x2048x1024_0_1_2 (broadcastInDim S1x1x1024 ![2] bcast_S1024_S1x1x1024_2 ob))

end Stages

/-- The reference's result is the stages in turn. -/
theorem res_eq (m : (ℓ : Loc nD τ sig) → Buf (Elt Ideal) ℓ) (c : Dev nD) :
    Value.res_main_v145 m c =
      (let a : (r : Ref sig .tc) → Buf (Elt Ideal) ((c.tc : Thread nD τ).loc r) := fun r => m ((c.tc : Thread nD τ).loc r)
       let q := heads (sepconv (a main_arg0) (a main_arg1) (a main_arg2) (a main_arg3) (a main_arg4) (a main_arg5) (a main_arg6))
       let k := heads (sepconv (a main_arg0) (a main_arg7) (a main_arg8) (a main_arg9) (a main_arg10) (a main_arg11) (a main_arg12))
       let v := heads (sepconv (a main_arg0) (a main_arg13) (a main_arg14) (a main_arg15) (a main_arg16) (a main_arg17) (a main_arg18))
       outp (mixed (normal (expo (scores q k) (rowMax (scores q k)))) v) (a main_arg19) (a main_arg20)) := by
  rfl

/-! ## The stages, entry by entry -/

/-- The integer zero converted to a float is zero. -/
theorem sitofp_zero : (FloatOps.sitofp FTy.f32 0#32 : Ideal .f32) = (0 : EReal) := by
  show (((0#32 : BitVec 32).toInt : ℝ) : EReal) = 0
  norm_num

/-- One convolution's parameters read off their arrays. -/
def conv (dw : FVec Ideal S1024x1x3 .f32) (dwb g bb : FVec Ideal S1024 .f32) (pw : FVec Ideal S1024x1024x1 .f32) (pwb : FVec Ideal S1024 .f32) : Conv :=
  ⟨fun d i => dw (ix3 d 0 i), fun d => dwb (ix1 d), fun d => g (ix1 d), fun d => bb (ix1 d), fun o d => pw (ix3 o d 0), fun o => pwb (ix1 o)⟩

/-- A stage of the reference: depthwise taps, normalisation and pointwise product, entry by entry. -/
theorem sepconv_at (x : FVec Ideal S1x2048x1024 .f32) (dw : FVec Ideal S1024x1x3 .f32) (dwb g bb : FVec Ideal S1024 .f32)
    (pw : FVec Ideal S1024x1024x1 .f32) (pwb : FVec Ideal S1024 .f32) (t : Fin 2048) (o : Fin 1024) :
    sepconv x dw dwb g bb pw pwb (ix3 0 t o) = sepRef (fun t d => x (ix3 0 t d)) (conv dw dwb g bb pw pwb) κ t o := by
  have hx1 : ∀ d, xpad (fun t d => x (ix3 0 t d)) (t.val + 1) d = x (ix3 0 t d) := fun d => by
    unfold xpad
    rw [dif_pos ⟨by omega, by have := t.isLt; omega⟩]
    exact congrArg (fun t => x (ix3 0 t d)) (Fin.ext (by simp))
  unfold sepRef
  simp only [hx1]
  pointwise [sepconv, normed, filtered, perTap, perChannel, padded]
  simp only [sitofp_zero, ofBits_κ, xpad, Nat.add_comm 2]
  rfl

/-- A stage of the reference: the split of the columns into heads, entry by entry. -/
theorem heads_at (y : FVec Ideal S1x2048x1024 .f32) (h : Fin 16) (t : Fin 2048) (e : Fin 64) :
    heads y (ix4 0 h t e) = y (ix3 0 t ⟨64 * h.val + e.val, by omega⟩) := by
  pointwise [heads]
  exact congrArg (fun o => y (ix3 0 t o)) (Fin.ext (by simp only []; omega))

/-- A stage of the reference: the scaled products of queries and keys, entry by entry. -/
theorem scores_at (q k : FVec Ideal S1x16x2048x64 .f32) (h : Fin 16) (t s : Fin 2048) :
    scores q k (ix4 0 h t s) = Ideal.div (∑ a : Fin 64, (q (ix4 0 h t a) : EReal) * k (ix4 0 h s a)) ((8 : ℝ) : EReal) := by
  pointwise [scores]
  rw [ofBits_eight]

/-- A stage of the reference: the exponential of a score less its row value, entry by entry. -/
theorem expo_at (s : FVec Ideal S1x16x2048x2048 .f32) (mx : FVec Ideal S1x16x2048 .f32) (h : Fin 16) (t u : Fin 2048) :
    expo s mx (ix4 0 h t u) = Ideal.exp ((s (ix4 0 h t u) : EReal) - mx (ix3 0 h t)) := by
  pointwise [expo, perRow]

/-- A stage of the reference: the softmax of a row, entry by entry. -/
theorem normal_at (s : FVec Ideal S1x16x2048x2048 .f32) (h : Fin 16) (t u : Fin 2048) :
    normal s (ix4 0 h t u) = Ideal.div (s (ix4 0 h t u)) (∑ w : Fin 2048, (s (ix4 0 h t w) : EReal)) := by
  pointwise [normal, perRow]

/-- A stage of the reference: the weighted sum of the values with the heads rejoined, entry by entry. -/
theorem mixed_at (a : FVec Ideal S1x16x2048x2048 .f32) (v : FVec Ideal S1x16x2048x64 .f32) (t : Fin 2048) (o : Fin 1024) :
    mixed a v (ix3 0 t o) = ∑ s : Fin 2048, (a (ix4 0 ⟨o.val / 64, by omega⟩ t s) : EReal) * v (ix4 0 ⟨o.val / 64, by omega⟩ s ⟨o.val % 64, by omega⟩) := by
  pointwise [mixed]

/-- A stage of the reference: the output projection, entry by entry. -/
theorem outp_at (y : FVec Ideal S1x2048x1024 .f32) (wo : FVec Ideal S1024x1024 .f32) (ob : FVec Ideal S1024 .f32) (t : Fin 2048) (o : Fin 1024) :
    outp y wo ob (ix3 0 t o) = (∑ d : Fin 1024, (y (ix3 0 t d) : EReal) * wo (ix2 o d)) + ob (ix1 o) := by
  pointwise [outp]

end Cert.ReferenceIdeal.Read
-- ==== Proof.RefMax.lean ====
module

public import proofs.«01_k».proof.Proof.RefIdeal
public import proofs.«01_k».proof.Proof.Math
public import Idealize.ShloMosaic.Lib.Pointwise

@[expose] public section

set_option maxRecDepth 16384

noncomputable section

namespace Cert.ReferenceIdeal.Read

open Cert.ReferenceIdeal Cert.ReferenceIdeal.Gen
open Idealize.ShloMosaic Idealize.ShloMosaic.TcCoe Cert.Attention

/-- The maximum, from minus infinity, of real numbers over at least one index is a real number. -/
theorem fold_max_real {n : ℕ} (hn : 0 < n) (f : Fin n → EReal) (hf : ∀ i, ∃ r : ℝ, f i = (r : EReal)) :
    ∃ r : ℝ, (Finset.univ : Finset (Fin n)).fold max (⊥ : EReal) f = (r : EReal) := by
  have h : ∀ s : Finset (Fin n), s.fold max (⊥ : EReal) f = ⊥ ∧ s = ∅ ∨ ∃ r : ℝ, s.fold max (⊥ : EReal) f = (r : EReal) := by
    classical
    intro s
    induction s using Finset.induction_on with
    | empty => exact .inl ⟨Finset.fold_empty, rfl⟩
    | insert a s ha ih =>
      obtain ⟨r, hr⟩ := hf a
      refine .inr ?_
      rw [Finset.fold_insert ha, hr]
      rcases ih with ⟨h, -⟩ | ⟨q, h⟩
      · exact ⟨r, by rw [h]; simp⟩
      · exact ⟨max r q, by rw [h]; exact (EReal.coe_strictMono.monotone.map_max (a := r) (b := q)).symm⟩
  rcases h Finset.univ with ⟨-, h⟩ | h
  · exact absurd (h ▸ Finset.mem_univ (⟨0, hn⟩ : Fin n)) (Finset.notMem_empty _)
  · exact h

/-- The host's maximum over one axis of real numbers, from minus infinity, is a real number. -/
theorem reduceMax_real {s t u : Shape} {a : Fin s.rank} (x : FVec Ideal s .f32) (init : FVec Ideal u .f32) (h' : s.ReducesTo [a] t) (h : s.Reduces [a] t)
    (hu : 0 < u.numel) (j : t.Idx) (hpos : 0 < s.size a) (hi : init (Shape.Idx.first hu) = (⊥ : EReal)) (hx : ∀ i, ∃ r : ℝ, x i = (r : EReal)) :
    ∃ r : ℝ, Host.reduce FloatOps.maximumf x init h' hu j = (r : EReal) := by
  rw [Host.reduce_eq_fold_single FloatOps.maximumf x init h' h hu j, hi]
  exact fold_max_real hpos _ fun k => hx _

/-- The maximum with minus infinity in every entry changes nothing. -/
theorem max_bottom (w : FVec Ideal S1x16x2048 .f32) (j : S1x16x2048.Idx) :
    maximumf (broadcastInDim S1x16x2048 ![] bcast_S_S1x16x2048 (constant S_ .f32 0xFF800000#32)) w j = w j := by
  show max (Ideal.ofBits .f32 4286578688#32) (w j) = w j
  rw [ofBits_neg_inf]
  simp

/-- The maximum of a row of real scores is real. -/
theorem rowMax_real (s : FVec Ideal S1x16x2048x2048 .f32) (hs : ∀ i, ∃ r : ℝ, s i = (r : EReal)) (j : S1x16x2048.Idx) :
    ∃ r : ℝ, rowMax s j = (r : EReal) := by
  unfold rowMax
  rw [max_bottom]
  have h : S1x16x2048x2048.Reduces [3] S1x16x2048 := by decide
  have hp : 0 < S1x16x2048x2048.size 3 := by decide
  exact reduceMax_real s _ _ h _ j hp ofBits_neg_inf hs

/-! ## The whole reference, entry by entry -/

variable (m : (ℓ : Loc nD τ sig) → Buf (Elt Ideal) ℓ)

/-- The array held in an argument's buffer on device `c`. -/
abbrev arg (c : Dev nD) (r : Ref sig .tc) : Buf (Elt Ideal) ((c.tc : Thread nD τ).loc r) := m ((c.tc : Thread nD τ).loc r)

/-- The input. -/
def xs (c : Dev nD) (t : Fin 2048) (d : Fin 1024) : EReal := arg m c main_arg0 (ix3 0 t d)
/-- The parameters of the queries' convolution. -/
def convq (c : Dev nD) : Conv := conv (arg m c main_arg1) (arg m c main_arg2) (arg m c main_arg3) (arg m c main_arg4) (arg m c main_arg5) (arg m c main_arg6)
/-- The queries, by heads. -/
def headsq (c : Dev nD) : FVec Ideal S1x16x2048x64 .f32 := heads (sepconv (arg m c main_arg0) (arg m c main_arg1) (arg m c main_arg2) (arg m c main_arg3) (arg m c main_arg4) (arg m c main_arg5) (arg m c main_arg6))
/-- The queries of the reference, entry by entry. -/
theorem headsq_at (c : Dev nD) (h : Fin 16) (t : Fin 2048) (e : Fin 64) :
    headsq m c (ix4 0 h t e) = sepRef (xs m c) (convq m c) κ t ⟨64 * h.val + e.val, by omega⟩ := by
  unfold headsq
  rw [heads_at, sepconv_at]
  rfl
/-- The parameters of the keys' convolution. -/
def convk (c : Dev nD) : Conv := conv (arg m c main_arg7) (arg m c main_arg8) (arg m c main_arg9) (arg m c main_arg10) (arg m c main_arg11) (arg m c main_arg12)
/-- The keys, by heads. -/
def headsk (c : Dev nD) : FVec Ideal S1x16x2048x64 .f32 := heads (sepconv (arg m c main_arg0) (arg m c main_arg7) (arg m c main_arg8) (arg m c main_arg9) (arg m c main_arg10) (arg m c main_arg11) (arg m c main_arg12))
/-- The keys of the reference, entry by entry. -/
theorem headsk_at (c : Dev nD) (h : Fin 16) (t : Fin 2048) (e : Fin 64) :
    headsk m c (ix4 0 h t e) = sepRef (xs m c) (convk m c) κ t ⟨64 * h.val + e.val, by omega⟩ := by
  unfold headsk
  rw [heads_at, sepconv_at]
  rfl
/-- The parameters of the values' convolution. -/
def convv (c : Dev nD) : Conv := conv (arg m c main_arg13) (arg m c main_arg14) (arg m c main_arg15) (arg m c main_arg16) (arg m c main_arg17) (arg m c main_arg18)
/-- The values, by heads. -/
def headsv (c : Dev nD) : FVec Ideal S1x16x2048x64 .f32 := heads (sepconv (arg m c main_arg0) (arg m c main_arg13) (arg m c main_arg14) (arg m c main_arg15) (arg m c main_arg16) (arg m c main_arg17) (arg m c main_arg18))
/-- The values of the reference, entry by entry. -/
theorem headsv_at (c : Dev nD) (h : Fin 16) (t : Fin 2048) (e : Fin 64) :
    headsv m c (ix4 0 h t e) = sepRef (xs m c) (convv m c) κ t ⟨64 * h.val + e.val, by omega⟩ := by
  unfold headsv
  rw [heads_at, sepconv_at]
  rfl

/-- The scores over eight. -/
theorem scores_eq (c : Dev nD) (h : Fin 16) (t u : Fin 2048) :
    scores (headsq m c) (headsk m c) (ix4 0 h t u)
      = Ideal.div (score (sepRef (xs m c) (convq m c) κ) (sepRef (xs m c) (convk m c) κ) h t u) ((8 : ℝ) : EReal) := by
  rw [scores_at]
  simp only [headsq_at, headsk_at]
  rfl

/-- The largest score over eight of query row `t` in head `h`. -/
def big (c : Dev nD) (h : Fin 16) (t : Fin 2048) : EReal := rowMax (scores (headsq m c) (headsk m c)) (ix3 0 h t)

/-- If the scores over eight are real, so are their maxima. -/
theorem big_real (c : Dev nD) (r : Fin 16 → Fin 2048 → Fin 2048 → ℝ)
    (hr : ∀ h t u, Ideal.div (score (sepRef (xs m c) (convq m c) κ) (sepRef (xs m c) (convk m c) κ) h t u) ((8 : ℝ) : EReal) = (r h t u : EReal)) :
    Real2 (big m c) := by
  have h : ∀ h t, ∃ M : ℝ, big m c h t = (M : EReal) := fun h t => by
    refine rowMax_real _ (fun i => ⟨r (i 1) (i 2) (i 3), ?_⟩) _
    have hi : i = ix4 0 (i 1) (i 2) (i 3) := by
      refine (eq_ix4 i).trans (congrArg (fun z : Fin 1 => ix4 z (i 1) (i 2) (i 3)) (Subsingleton.elim _ _))
    rw [hi]
    exact (scores_eq m c _ _ _).trans (hr _ _ _)
  choose M hM using h
  exact ⟨M, hM⟩

/-- The reference's result at row `t`, column `o`. -/
theorem result_at (c : Dev nD) (t : Fin 2048) (o : Fin 1024) :
    (Value.res_main_v145 m c : FVec Ideal S1x2048x1024 .f32) (ix3 0 t o)
      = (∑ d, ctxRef (sepRef (xs m c) (convq m c) κ) (sepRef (xs m c) (convk m c) κ) (sepRef (xs m c) (convv m c) κ) (big m c) t d * (arg m c main_arg19 (ix2 o d) : EReal))
        + arg m c main_arg20 (ix1 o) := by
  have h0 : Value.res_main_v145 m c = outp (mixed (normal (expo (scores (headsq m c) (headsk m c)) (rowMax (scores (headsq m c) (headsk m c))))) (headsv m c))
      (arg m c main_arg19) (arg m c main_arg20) := res_eq m c
  rw [h0, outp_at]
  refine congrArg (· + _) (Finset.sum_congr rfl fun d _ => congrArg (· * _) ?_)
  have hd : (⟨64 * (d.val / 64) + d.val % 64, by omega⟩ : Fin 1024) = d := Fin.ext (by simp only []; omega)
  rw [mixed_at]
  unfold ctxRef
  simp only [normal_at, expo_at, scores_eq, headsv_at, hd]
  rfl

end Cert.ReferenceIdeal.Read
-- ==== Proof.PreFinite.lean ====
module

public import proofs.«01_k».proof.Pre_finite_inputs
public import proofs.«01_k».proof.Proof.Gen.Pre_finite_inputs
public import Idealize.ShloMosaic.Lib.ReduceAll
public import Idealize.ShloMosaic.PureOps.Ideal.Laws

@[expose] public section

set_option maxRecDepth 16384

noncomputable section

namespace Cert.Pre_finite_inputs.Read

open Cert.Pre_finite_inputs Cert.Pre_finite_inputs.Gen
open Idealize.ShloMosaic

/-- An extended real whose absolute value compares below plus infinity is a real number. -/
theorem real_of_lt (x : Ideal .f32) (h : FloatOps.cmpf .olt (FloatOps.hostAbsf x) (Ideal.ofBits .f32 0x7F800000#32 : Ideal .f32) = 1#1) : ∃ r : ℝ, x = (r : EReal) := by
  have ht : Ideal.ofBits .f32 0x7F800000#32 = ⊤ := by simp [Ideal.ofBits, Ideal.ieee]
  rw [ht] at h
  have hlt : max (x : EReal) (-(x : EReal)) < ⊤ := by
    by_contra hn
    have : FloatOps.cmpf .olt (FloatOps.hostAbsf x) (⊤ : EReal) = BitVec.ofBool (decide (max (x : EReal) (-(x : EReal)) < ⊤)) := rfl
    rw [this, decide_eq_false hn] at h
    exact absurd h (by decide)
  rw [max_lt_iff] at hlt
  induction x using EReal.rec with
  | bot => exact absurd hlt.2 (by simp)
  | top => exact absurd hlt.1 (by simp)
  | coe r => exact ⟨r, rfl⟩

/-- An array of which every absolute value is below plus infinity holds real numbers only. -/
theorem all_real {s : Shape} {axes : List (Fin s.rank)} (x : FVec Ideal s .f32) (hb : S_.BroadcastsInDim s (![] : Fin 0 → Fin s.rank)) (h' : s.ReducesTo axes S_) (j : S_.Idx)
    (e : Host.reduce IntOp.andi (cmpf .olt (Host.absf x) (broadcastInDim s ![] hb (constant S_ .f32 0x7F800000#32))) (constantI S_ 1 1#1) h' h_S_ j = 1#1) (i : s.Idx) :
    ∃ r : ℝ, x i = (r : EReal) := by
  haveI : Subsingleton S_.Idx := ⟨fun a b => funext fun k => k.elim0⟩
  exact real_of_lt (x i) (Host.reduce_andi_all _ _ h' h_S_ j e i)

/-- A conjunction of two flags that holds has both flags set. -/
theorem and_split (a b : IVec S_ 1) (j : S_.Idx) (h : andi a b j = 1#1) : a j = 1#1 ∧ b j = 1#1 := IntOp.andi_eq_one.1 h

/-- What the precondition gives: the input, all parameters of the queries' and the keys' convolutions, and the taps and the gains of the values'
    convolution hold real numbers only. -/
theorem finite (a0 : FVec Ideal S1x2048x1024 .f32) (a1 : FVec Ideal S1024x1x3 .f32) (a2 : FVec Ideal S1024 .f32) (a3 : FVec Ideal S1024 .f32) (a4 : FVec Ideal S1024 .f32) (a5 : FVec Ideal S1024x1024x1 .f32) (a6 : FVec Ideal S1024 .f32) (a7 : FVec Ideal S1024x1x3 .f32) (a8 : FVec Ideal S1024 .f32) (a9 : FVec Ideal S1024 .f32) (a10 : FVec Ideal S1024 .f32) (a11 : FVec Ideal S1024x1024x1 .f32) (a12 : FVec Ideal S1024 .f32) (a13 : FVec Ideal S1024x1x3 .f32) (a14 : FVec Ideal S1024 .f32) (a15 : FVec Ideal S1024 .f32) (a16 : FVec Ideal S1024 .f32) (a17 : FVec Ideal S1024x1024x1 .f32) (a18 : FVec Ideal S1024 .f32) (a19 : FVec Ideal S1024x1024 .f32) (a20 : FVec Ideal S1024 .f32)
    (h : fn (F := Ideal) a0 a1 a2 a3 a4 a5 a6 a7 a8 a9 a10 a11 a12 a13 a14 a15 a16 a17 a18 a19 a20 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) ∧ (∀ i, ∃ r : ℝ, a11 i = (r : EReal)) ∧ (∀ i, ∃ r : ℝ, a12 i = (r : EReal)) ∧ (∀ i, ∃ r : ℝ, a13 i = (r : EReal)) ∧ (∀ i, ∃ r : ℝ, a15 i = (r : EReal)) := by
  have h := congrFun h (fun k => k.elim0)
  unfold fn fn_part1 fn_part2 fn_part3 fn_part4 at h
  obtain ⟨h, e14⟩ := and_split _ _ _ h
  obtain ⟨h, e13⟩ := and_split _ _ _ h
  obtain ⟨h, e12⟩ := and_split _ _ _ h
  obtain ⟨h, e11⟩ := and_split _ _ _ h
  obtain ⟨h, e10⟩ := and_split _ _ _ h
  obtain ⟨h, e9⟩ := and_split _ _ _ h
  obtain ⟨h, e8⟩ := and_split _ _ _ h
  obtain ⟨h, e7⟩ := and_split _ _ _ h
  obtain ⟨h, e6⟩ := and_split _ _ _ h
  obtain ⟨h, e5⟩ := and_split _ _ _ h
  obtain ⟨h, e4⟩ := and_split _ _ _ h
  obtain ⟨h, e3⟩ := and_split _ _ _ h
  obtain ⟨h, e2⟩ := and_split _ _ _ h
  obtain ⟨h, e1⟩ := and_split _ _ _ h
  exact ⟨all_real a0 _ _ _ h, all_real a1 _ _ _ e1, all_real a2 _ _ _ e2, all_real a3 _ _ _ e3, all_real a4 _ _ _ e4, all_real a5 _ _ _ e5, all_real a6 _ _ _ e6, all_real a7 _ _ _ e7, all_real a8 _ _ _ e8, all_real a9 _ _ _ e9, all_real a10 _ _ _ e10, all_real a11 _ _ _ e11, all_real a12 _ _ _ e12, all_real a13 _ _ _ e13, all_real a15 _ _ _ e14⟩

end Cert.Pre_finite_inputs.Read
-- ==== Proof.Final.lean ====
module

public import proofs.«01_k».proof.Defs
public import proofs.«01_k».proof.Proof.ValIdeal
public import proofs.«01_k».proof.Proof.RefMax
public import proofs.«01_k».proof.Proof.PreFinite

@[expose] public section

set_option maxRecDepth 16384

noncomputable section

namespace Cert.Final

open Idealize.ShloMosaic Idealize.ShloMosaic.TcCoe Cert.Attention

/-- The kernel's array and the reference's are one array, for any input and any parameters of which those the precondition names are real numbers. -/
theorem attention_eq (x : Fin 2048 → Fin 1024 → EReal) (A B C : Conv) (hx : Real2 x)
    (hA1 : Real2 A.dw) (hA2 : Real1 A.dwb) (hA3 : Real1 A.g) (hA4 : Real1 A.bb) (hA5 : Real2 A.pw) (hA6 : Real1 A.pwb)
    (hB1 : Real2 B.dw) (hB2 : Real1 B.dwb) (hB3 : Real1 B.g) (hB4 : Real1 B.bb) (hB5 : Real2 B.pw) (hB6 : Real1 B.pwb)
    (hC1 : Real2 C.dw) (hC3 : Real1 C.g) (M : Fin 16 → Fin 2048 → EReal)
    (hM : ∀ r : Fin 16 → Fin 2048 → Fin 2048 → ℝ, (∀ h t u, Ideal.div (score (sepRef x A κ) (sepRef x B κ) h t u) ((8 : ℝ) : EReal) = (r h t u : EReal)) → Real2 M)
    (t : Fin 2048) (o : Fin 1024) :
    ctxKer (sepKer x A ((κ / 8 : ℝ) : EReal) ((1 / 8 : ℝ) : EReal)) (sepKer x B (κ : EReal) 1) (sepKer x C (κ : EReal) 1) t o
      = ctxRef (sepRef x A κ) (sepRef x B κ) (sepRef x C κ) M t o := by
  obtain ⟨q, hq, hq8⟩ := sep_real A κ (κ / 8) (1 / 8) rfl rfl hx hA1 hA2 hA3 hA4 hA5 hA6
  obtain ⟨k, hk, -⟩ := sep_real B κ (κ / 8) (1 / 8) rfl rfl hx hB1 hB2 hB3 hB4 hB5 hB6
  have eq1 : sepRef x A κ = fun t o => (q t o : EReal) := funext fun t => funext fun o => hq t o
  have eq2 : sepKer x A ((κ / 8 : ℝ) : EReal) ((1 / 8 : ℝ) : EReal) = fun t o => ((q t o / 8 : ℝ) : EReal) := funext fun t => funext fun o => hq8 t o
  have ek1 : sepRef x B κ = fun t o => (k t o : EReal) := funext fun t => funext fun o => hk t o
  have ek2 : sepKer x B (κ : EReal) 1 = sepRef x B κ := funext fun t => funext fun o => sepKer_eq B κ hx hB1 hB3 t o
  have ev : sepKer x C (κ : EReal) 1 = sepRef x C κ := funext fun t => funext fun o => sepKer_eq C κ hx hC1 hC3 t o
  have hMr : Real2 M := by
    obtain ⟨r, hr⟩ := score_real q k
    exact hM r fun h t u => by rw [eq1, ek1]; exact (hr h t u).1
  rw [eq2, ek2, ev, eq1, ek1]
  exact (ctx_eq q k _ M hMr t o).symm

/-- From memories agreeing on the arguments, the precondition holding, the reference's result is the kernel's. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (hpre : Pre_KernelIdeal_finite_inputs m) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9))
    (h10 : m' ((c.tc : Thread ReferenceIdeal.nD ReferenceIdeal.τ).loc ReferenceIdeal.main_arg10) = m ((c.tc : Thread KernelIdeal.nD KernelIdeal.τ).loc KernelIdeal.main_arg10))
    (h11 : m' ((c.tc : Thread ReferenceIdeal.nD ReferenceIdeal.τ).loc ReferenceIdeal.main_arg11) = m ((c.tc : Thread KernelIdeal.nD KernelIdeal.τ).loc KernelIdeal.main_arg11))
    (h12 : m' ((c.tc : Thread ReferenceIdeal.nD ReferenceIdeal.τ).loc ReferenceIdeal.main_arg12) = m ((c.tc : Thread KernelIdeal.nD KernelIdeal.τ).loc KernelIdeal.main_arg12))
    (h13 : m' ((c.tc : Thread ReferenceIdeal.nD ReferenceIdeal.τ).loc ReferenceIdeal.main_arg13) = m ((c.tc : Thread KernelIdeal.nD KernelIdeal.τ).loc KernelIdeal.main_arg13))
    (h14 : m' ((c.tc : Thread ReferenceIdeal.nD ReferenceIdeal.τ).loc ReferenceIdeal.main_arg14) = m ((c.tc : Thread KernelIdeal.nD KernelIdeal.τ).loc KernelIdeal.main_arg14))
    (h15 : m' ((c.tc : Thread ReferenceIdeal.nD ReferenceIdeal.τ).loc ReferenceIdeal.main_arg15) = m ((c.tc : Thread KernelIdeal.nD KernelIdeal.τ).loc KernelIdeal.main_arg15))
    (h16 : m' ((c.tc : Thread ReferenceIdeal.nD ReferenceIdeal.τ).loc ReferenceIdeal.main_arg16) = m ((c.tc : Thread KernelIdeal.nD KernelIdeal.τ).loc KernelIdeal.main_arg16))
    (h17 : m' ((c.tc : Thread ReferenceIdeal.nD ReferenceIdeal.τ).loc ReferenceIdeal.main_arg17) = m ((c.tc : Thread KernelIdeal.nD KernelIdeal.τ).loc KernelIdeal.main_arg17))
    (h18 : m' ((c.tc : Thread ReferenceIdeal.nD ReferenceIdeal.τ).loc ReferenceIdeal.main_arg18) = m ((c.tc : Thread KernelIdeal.nD KernelIdeal.τ).loc KernelIdeal.main_arg18))
    (h19 : m' ((c.tc : Thread ReferenceIdeal.nD ReferenceIdeal.τ).loc ReferenceIdeal.main_arg19) = m ((c.tc : Thread KernelIdeal.nD KernelIdeal.τ).loc KernelIdeal.main_arg19))
    (h20 : m' ((c.tc : Thread ReferenceIdeal.nD ReferenceIdeal.τ).loc ReferenceIdeal.main_arg20) = m ((c.tc : Thread KernelIdeal.nD KernelIdeal.τ).loc KernelIdeal.main_arg20)) :
    ReferenceIdeal.Value.res_main_v145 m' c = KernelIdeal.Out.result m c := by
  obtain ⟨f0, f1, f2, f3, f4, f5, f6, f7, f8, f9, f10, f11, f12, f13, f15⟩ := Pre_finite_inputs.Read.finite _ _ _ _ _ _ _ _ _ _ _ _ _ _ _ _ _ _ _ _ _ (hpre c)
  have ex : ReferenceIdeal.Read.xs m' c = KernelIdeal.Host.xs m c := by
    unfold ReferenceIdeal.Read.xs KernelIdeal.Host.xs ReferenceIdeal.Read.arg
    rw [h0]
  have eq : ReferenceIdeal.Read.convq m' c = KernelIdeal.Host.convq m c := by
    unfold ReferenceIdeal.Read.convq KernelIdeal.Host.convq ReferenceIdeal.Read.arg
    rw [h1, h2, h3, h4, h5, h6]
    rfl
  have ek : ReferenceIdeal.Read.convk m' c = KernelIdeal.Host.convk m c := by
    unfold ReferenceIdeal.Read.convk KernelIdeal.Host.convk ReferenceIdeal.Read.arg
    rw [h7, h8, h9, h10, h11, h12]
    rfl
  have ev : ReferenceIdeal.Read.convv m' c = KernelIdeal.Host.convv m c := by
    unfold ReferenceIdeal.Read.convv KernelIdeal.Host.convv ReferenceIdeal.Read.arg
    rw [h13, h14, h15, h16, h17, h18]
    rfl
  have key : ∀ (t : Fin 2048) (o : Fin 1024),
      (ReferenceIdeal.Value.res_main_v145 m' c : FVec Ideal ReferenceIdeal.S1x2048x1024 .f32) (ix3 0 t o)
        = (KernelIdeal.Out.result m c : FVec Ideal KernelIdeal.S1x2048x1024 .f32) (ix3 0 t o) := fun t o => by
    have hM := ReferenceIdeal.Read.big_real m' c
    refine (ReferenceIdeal.Read.result_at m' c t o).trans ((KernelIdeal.Val.result_at m c t o).trans ?_).symm
    rw [ex, eq, ek] at hM
    rw [ex, eq, ek, ev]
    have ew : ∀ d : Fin 1024, ReferenceIdeal.Read.arg m' c ReferenceIdeal.main_arg19 (ix2 o d) = KernelIdeal.Host.wo m c o d := fun d => congrFun h19 (ix2 o d)
    have eb : ReferenceIdeal.Read.arg m' c ReferenceIdeal.main_arg20 (ix1 o) = KernelIdeal.Host.ob m c o := congrFun h20 (ix1 o)
    rw [eb]
    refine congrArg (· + KernelIdeal.Host.ob m c o) (Finset.sum_congr rfl fun d _ => ?_)
    rw [ew]
    refine congrArg (· * KernelIdeal.Host.wo m c o d) ?_
    exact attention_eq _ _ _ _ (real2 fun t d => f0 (ix3 0 t d))
      (real2 fun d i => f1 (ix3 d 0 i)) (real1 fun d => f2 (ix1 d)) (real1 fun d => f3 (ix1 d)) (real1 fun d => f4 (ix1 d)) (real2 fun o d => f5 (ix3 o d 0)) (real1 fun o => f6 (ix1 o))
      (real2 fun d i => f7 (ix3 d 0 i)) (real1 fun d => f8 (ix1 d)) (real1 fun d => f9 (ix1 d)) (real1 fun d => f10 (ix1 d)) (real2 fun o d => f11 (ix3 o d 0)) (real1 fun o => f12 (ix1 o))
      (real2 fun d i => f13 (ix3 d 0 i)) (real1 fun d => f15 (ix1 d)) _ hM t d
  refine funext fun i => ?_
  have hi : i = ix3 (n0 := 1) (n1 := 2048) (n2 := 1024) 0 (i 1) (i 2) :=
    (eq_ix3 (n0 := 1) (n1 := 2048) (n2 := 1024) i).trans (congrArg (fun z : Fin 1 => ix3 z (i 1) (i 2)) (Subsingleton.elim _ _))
  rw [hi]
  exact key (i 1) (i 2)

end Cert.Final
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_inputs
public import proofs.«01_k».proof.Proof.Gen.ReferenceIdeal.Run
public import proofs.«01_k».proof.Proof.Run
public import proofs.«01_k».proof.Proof.RunIdeal
public import proofs.«01_k».proof.Proof.Final
public import Idealize.ShloMosaic.Adequacy
public import Idealize.ShloMosaic.Init

@[expose] public section

noncomputable section

namespace Cert.Proof

open Idealize.ShloMosaic Idealize.SL.Sem

/-- The kernel terminates, leaves its arguments and every semaphore counter at zero. -/
theorem frame_kernel : quiescent_Kernel (hKernel := Cert.Kernel.Gen.facts) := fun m g _ =>
  θ_run_with_sems (Cert.Kernel.Gen.frame_of m g (Cert.Kernel.Run.dats m) (Cert.Kernel.Run.A_eq m)) (Cert.Kernel.Run.run_main m g)

/-- The same of the kernel read over the extended reals. -/
theorem frame_kernelIdeal : quiescent_KernelIdeal (hKernelIdeal := Cert.KernelIdeal.Gen.facts) := fun m g _ =>
  θ_run_with_sems (Cert.KernelIdeal.Gen.frame_of m g (Cert.KernelIdeal.Run.dats m) (Cert.KernelIdeal.Run.A_eq m)) (Cert.KernelIdeal.Run.run_main m g)

/-- The same of the reference. -/
theorem frame_referenceIdeal : quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩) (Cert.ReferenceIdeal.Value.run m g)

/-- From memories agreeing on the arguments, the named inputs finite, the kernel and the reference end with one array as their result, their arguments
    unchanged. -/
theorem algebraic : algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := fun m g m' g' hpre hargs => by
  have hf := frame_kernelIdeal m g trivial
  have hr := Cert.KernelIdeal.Out.run m g
  refine ⟨Cert.KernelIdeal.Out.result m,
    ⟨fun t ht hfair => fun c => ⟨hr.post t ht hfair c, (hf.post t ht hfair).1 c⟩, hr.progress, hr.fair⟩,
    (θ_run _ _ _).mono (fun r h c => ⟨(h c).1.trans ?_, (h c).2⟩) (Cert.ReferenceIdeal.Value.run m' g')⟩
  obtain ⟨h0, h1, h2, h3, h4, h5, h6, h7, h8, h9, h10, h11, h12, h13, h14, h15, h16, h17, h18, h19, h20⟩ := hargs c
  exact Cert.Final.result_eq m m' hpre c h0 h1 h2 h3 h4 h5 h6 h7 h8 h9 h10 h11 h12 h13 h14 h15 h16 h17 h18 h19 h20

/-- The whole claim: the three frames, the preservation and the equality with the reference. -/
theorem claim : Cert.Claim :=
  ⟨Cert.Kernel.Gen.facts, Cert.KernelIdeal.Gen.facts, Cert.ReferenceIdeal.Gen.facts, Cert.Pre_finite_inputs.Gen.facts,
    frame_kernel, frame_kernelIdeal, fun m g _ => frame_kernelIdeal m g trivial, frame_referenceIdeal, fun m g _ => frame_referenceIdeal m g trivial,
    trivial, algebraic⟩

end Cert.Proof

end
